-- ==== Defs.lean ====
def Pre_Kernel [hPre_ids_in_table : Cert.Pre_ids_in_table.Facts] (m : (ℓ : Loc Cert.Kernel.nD Cert.Kernel.τ Cert.Kernel.sig) → Buf (Elt Bits) ℓ) : Prop :=
  ∀ c : Dev Cert.Kernel.nD,
    (Cert.Pre_ids_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_ids_in_table : Cert.Pre_ids_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_ids_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_in_table [hPre_ids_in_table : Cert.Pre_ids_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] [hPre_ids_in_table : Cert.Pre_ids_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_in_table [hReferenceIdeal : Cert.ReferenceIdeal.Facts] [hPre_ids_in_table : Cert.Pre_ids_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_in_table m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_ids_in_table : Cert.Pre_ids_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_in_table : Cert.Pre_ids_in_table.Facts),
    quiescent_Kernel (hKernel := hKernel) (hPre_ids_in_table := hPre_ids_in_table)
    ∧ quiescent_KernelIdeal (hKernelIdeal := hKernelIdeal) (hPre_ids_in_table := hPre_ids_in_table)
    ∧ quiescent_ReferenceIdeal (hReferenceIdeal := hReferenceIdeal)
    ∧ quiescent_ReferenceIdeal_pre_ids_in_table (hReferenceIdeal := hReferenceIdeal) (hPre_ids_in_table := hPre_ids_in_table)
    ∧ preserves_Kernel_KernelIdeal
    ∧ algebraic_KernelIdeal_ReferenceIdeal (hKernelIdeal := hKernelIdeal) (hReferenceIdeal := hReferenceIdeal) (hPre_ids_in_table := hPre_ids_in_table)
-- ==== Pre_ids_in_table.lean ====
abbrev S1024x50 : Shape := ⟨2, ![1024, 50]⟩
abbrev S500x256 : Shape := ⟨2, ![500, 256]⟩
abbrev S256x1024 : Shape := ⟨2, ![256, 1024]⟩
abbrev S1024 : Shape := ⟨1, ![1024]⟩
abbrev S1024x2048 : Shape := ⟨2, ![1024, 2048]⟩
abbrev S2048 : Shape := ⟨1, ![2048]⟩
abbrev S_ : Shape := ⟨0, ![]⟩

class Facts : Prop where
  bcast_S_S1024x50 : S_.BroadcastsInDim S1024x50 (![] : Fin 0 → Fin S1024x50.rank)
  reducesTo_S1024x50_S_d0_1 : S1024x50.ReducesTo [0, 1] S_
  h_S_ : 0 < S_.numel

variable [Facts]

def fn {F : FTy → Type} [FloatOps F] (main_arg0 : IVec S1024x50 32) (main_arg1 : FVec F S500x256 .f32) (main_arg2 : FVec F S256x1024 .f32) (main_arg3 : FVec F S1024 .f32) (main_arg4 : FVec F S1024x2048 .f32) (main_arg5 : FVec F S2048 .f32) (main_arg6 : FVec F S2048 .f32) (main_arg7 : FVec F S2048 .f32) : IVec S_ 1 :=
  let main_c : IVec S_ 32 := constantI S_ 32 0#32
  let main_v0 : IVec S1024x50 32 := broadcastInDim S1024x50 ![] bcast_S_S1024x50 main_c
  let main_v1 : IVec S1024x50 1 := cmpi .sge main_arg0 main_v0
  let main_c_0 : IVec S_ 32 := constantI S_ 32 500#32
  let main_v2 : IVec S1024x50 32 := broadcastInDim S1024x50 ![] bcast_S_S1024x50 main_c_0
  let main_v3 : IVec S1024x50 1 := cmpi .slt main_arg0 main_v2
  let main_v4 : IVec S1024x50 1 := andi main_v1 main_v3
  let main_c_1 : IVec S_ 1 := constantI S_ 1 1#1
  let main_v5 : IVec S_ 1 := (fun x v => Host.reduce IntOp.andi x v reducesTo_S1024x50_S_d0_1 h_S_) main_v4 main_c_1
  main_v5
-- ==== Kernel.lean ====
abbrev S1024x50 : Shape := ⟨2, ![1024, 50]⟩
abbrev S500x256 : Shape := ⟨2, ![500, 256]⟩
abbrev S256x1024 : Shape := ⟨2, ![256, 1024]⟩
abbrev S1024 : Shape := ⟨1, ![1024]⟩
abbrev S1024x2048 : Shape := ⟨2, ![1024, 2048]⟩
abbrev S2048 : Shape := ⟨1, ![2048]⟩
abbrev S50x1024 : Shape := ⟨2, ![50, 1024]⟩
abbrev S50x64x16 : Shape := ⟨3, ![50, 64, 16]⟩
abbrev S64x50x16 : Shape := ⟨3, ![64, 50, 16]⟩
abbrev S51200 : Shape := ⟨1, ![51200]⟩
abbrev S500x2x128 : Shape := ⟨3, ![500, 2, 128]⟩
abbrev S25600 : Shape := ⟨1, ![25600]⟩
abbrev S25600x2x128 : Shape := ⟨3, ![25600, 2, 128]⟩
abbrev S80 : Shape := ⟨1, ![80]⟩
abbrev S80x2x128 : Shape := ⟨3, ![80, 2, 128]⟩
abbrev S_ : Shape := ⟨0, ![]⟩
abbrev S25600x256 : Shape := ⟨2, ![25600, 256]⟩
abbrev S1x1024 : Shape := ⟨2, ![1, 1024]⟩
abbrev S1x2048 : Shape := ⟨2, ![1, 2048]⟩
abbrev S50x1024x2048 : Shape := ⟨3, ![50, 1024, 2048]⟩
abbrev S800x256 : Shape := ⟨2, ![800, 256]⟩
abbrev S50x16x2048 : Shape := ⟨3, ![50, 16, 2048]⟩
abbrev S800x1024 : Shape := ⟨2, ![800, 1024]⟩
abbrev S800x2048 : Shape := ⟨2, ![800, 2048]⟩
abbrev S800 : Shape := ⟨1, ![800]⟩
abbrev S800x1 : Shape := ⟨2, ![800, 1]⟩
abbrev S1024x50x2048 : Shape := ⟨3, ![1024, 50, 2048]⟩

abbrev nBuf : Table → Nat
  | .hbm => 26
  | .local .tc .vmem => 20
  | .local .scVector .vmem => 8
  | _ => 0

abbrev bufTy : (tb : Table) → Fin (nBuf tb) → BufTy
  | .hbm, ⟨0, _⟩ => ⟨S1024x50, .i32⟩
  | .hbm, ⟨1, _⟩ => ⟨S500x256, .f32⟩
  | .hbm, ⟨2, _⟩ => ⟨S256x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S50x1024, .i32⟩
  | .hbm, ⟨9, _⟩ => ⟨S50x64x16, .i32⟩
  | .hbm, ⟨10, _⟩ => ⟨S64x50x16, .i32⟩
  | .hbm, ⟨11, _⟩ => ⟨S51200, .i32⟩
  | .hbm, ⟨12, _⟩ => ⟨S500x2x128, .f32⟩
  | .hbm, ⟨13, _⟩ => ⟨S25600, .i32⟩
  | .hbm, ⟨14, _⟩ => ⟨S25600x2x128, .f32⟩
  | .hbm, ⟨15, _⟩ => ⟨S25600x256, .f32⟩
  | .hbm, ⟨16, _⟩ => ⟨S25600, .i32⟩
  | .hbm, ⟨17, _⟩ => ⟨S25600x2x128, .f32⟩
  | .hbm, ⟨18, _⟩ => ⟨S25600x256, .f32⟩
  | .hbm, ⟨19, _⟩ => ⟨S1x1024, .f32⟩
  | .hbm, ⟨20, _⟩ => ⟨S1x2048, .f32⟩
  | .hbm, ⟨21, _⟩ => ⟨S1x2048, .f32⟩
  | .hbm, ⟨22, _⟩ => ⟨S1x2048, .f32⟩
  | .hbm, ⟨23, _⟩ => ⟨S50x1024x2048, .f32⟩
  | .hbm, ⟨24, _⟩ => ⟨S50x1024x2048, .f32⟩
  | .hbm, ⟨25, _⟩ => ⟨S1024x50x2048, .f32⟩
  | .local .tc .vmem, ⟨0, _⟩ => ⟨S800x256, .f32⟩
  | .local .tc .vmem, ⟨1, _⟩ => ⟨S800x256, .f32⟩
  | .local .tc .vmem, ⟨2, _⟩ => ⟨S256x1024, .f32⟩
  | .local .tc .vmem, ⟨3, _⟩ => ⟨S1x1024, .f32⟩
  | .local .tc .vmem, ⟨4, _⟩ => ⟨S1024x2048, .f32⟩
  | .local .tc .vmem, ⟨5, _⟩ => ⟨S1x2048, .f32⟩
  | .local .tc .vmem, ⟨6, _⟩ => ⟨S1x2048, .f32⟩
  | .local .tc .vmem, ⟨7, _⟩ => ⟨S1x2048, .f32⟩
  | .local .tc .vmem, ⟨8, _⟩ => ⟨S50x16x2048, .f32⟩
  | .local .tc .vmem, ⟨9, _⟩ => ⟨S50x16x2048, .f32⟩
  | .local .tc .vmem, ⟨10, _⟩ => ⟨S800x256, .f32⟩
  | .local .tc .vmem, ⟨11, _⟩ => ⟨S800x256, .f32⟩
  | .local .tc .vmem, ⟨12, _⟩ => ⟨S256x1024, .f32⟩
  | .local .tc .vmem, ⟨13, _⟩ => ⟨S1x1024, .f32⟩
  | .local .tc .vmem, ⟨14, _⟩ => ⟨S1024x2048, .f32⟩
  | .local .tc .vmem, ⟨15, _⟩ => ⟨S1x2048, .f32⟩
  | .local .tc .vmem, ⟨16, _⟩ => ⟨S1x2048, .f32⟩
  | .local .tc .vmem, ⟨17, _⟩ => ⟨S1x2048, .f32⟩
  | .local .tc .vmem, ⟨18, _⟩ => ⟨S50x16x2048, .f32⟩
  | .local .tc .vmem, ⟨19, _⟩ => ⟨S50x16x2048, .f32⟩
  | .local .scVector .vmem, ⟨0, _⟩ => ⟨S80, .i32⟩
  | .local .scVector .vmem, ⟨1, _⟩ => ⟨S80, .i32⟩
  | .local .scVector .vmem, ⟨2, _⟩ => ⟨S80x2x128, .f32⟩
  | .local .scVector .vmem, ⟨3, _⟩ => ⟨S80x2x128, .f32⟩
  | .local .scVector .vmem, ⟨4, _⟩ => ⟨S80, .i32⟩
  | .local .scVector .vmem, ⟨5, _⟩ => ⟨S80, .i32⟩
  | .local .scVector .vmem, ⟨6, _⟩ => ⟨S80x2x128, .f32⟩
  | .local .scVector .vmem, ⟨7, _⟩ => ⟨S80x2x128, .f32⟩
  | _, _ => ⟨S1024x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 48 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTables nBuf rfl bufTy 4 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v5_scv : Ref sig .scVector := ⟨.hbm, 13, rfl⟩
abbrev main_v4_scv : Ref sig .scVector := ⟨.hbm, 12, rfl⟩
abbrev main_v6_scv : Ref sig .scVector := ⟨.hbm, 14, rfl⟩
abbrev main_v8_scv : Ref sig .scVector := ⟨.hbm, 16, rfl⟩
abbrev main_v9_scv : Ref sig .scVector := ⟨.hbm, 17, rfl⟩
abbrev cc2_stg0_0 : Ref sig .tc := ⟨.vmem, 0, rfl⟩
abbrev cc2_stg0_1 : Ref sig .tc := ⟨.vmem, 1, rfl⟩
abbrev cc2_stg1_0 : Ref sig .tc := ⟨.vmem, 2, rfl⟩
abbrev cc2_stg2_0 : Ref sig .tc := ⟨.vmem, 3, rfl⟩
abbrev cc2_stg3_0 : Ref sig .tc := ⟨.vmem, 4, rfl⟩
abbrev cc2_stg4_0 : Ref sig .tc := ⟨.vmem, 5, rfl⟩
abbrev cc2_stg5_0 : Ref sig .tc := ⟨.vmem, 6, rfl⟩
abbrev cc2_stg6_0 : Ref sig .tc := ⟨.vmem, 7, rfl⟩
abbrev cc2_stg7_0 : Ref sig .tc := ⟨.vmem, 8, rfl⟩
abbrev cc2_stg7_1 : Ref sig .tc := ⟨.vmem, 9, rfl⟩
abbrev cc3_stg0_0 : Ref sig .tc := ⟨.vmem, 10, rfl⟩
abbrev cc3_stg0_1 : Ref sig .tc := ⟨.vmem, 11, rfl⟩
abbrev cc3_stg1_0 : Ref sig .tc := ⟨.vmem, 12, rfl⟩
abbrev cc3_stg2_0 : Ref sig .tc := ⟨.vmem, 13, rfl⟩
abbrev cc3_stg3_0 : Ref sig .tc := ⟨.vmem, 14, rfl⟩
abbrev cc3_stg4_0 : Ref sig .tc := ⟨.vmem, 15, rfl⟩
abbrev cc3_stg5_0 : Ref sig .tc := ⟨.vmem, 16, rfl⟩
abbrev cc3_stg6_0 : Ref sig .tc := ⟨.vmem, 17, rfl⟩
abbrev cc3_stg7_0 : Ref sig .tc := ⟨.vmem, 18, rfl⟩
abbrev cc3_stg7_1 : Ref sig .tc := ⟨.vmem, 19, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_scratch0 : Ref sig .scVector := ⟨.vmem, 4, rfl⟩
abbrev cc1_scratch1 : Ref sig .scVector := ⟨.vmem, 5, rfl⟩
abbrev cc1_scratch2 : Ref sig .scVector := ⟨.vmem, 6, rfl⟩
abbrev cc1_scratch3 : Ref sig .scVector := ⟨.vmem, 7, rfl⟩
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem7_1 : DmaSem sig := 37
abbrev cc3_sem0_0 : DmaSem sig := 38
abbrev cc3_sem0_1 : DmaSem sig := 39
abbrev cc3_sem1_0 : DmaSem sig := 40
abbrev cc3_sem2_0 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  ![v2.toNat]
def k0_off2 (i : grid0.Coords) (c80_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v4 : BitVec 32 := Scalar.addi v2 c80_i32
  ![v4.toNat]
def k0_off3 (i : grid0.Coords) (c0_i32_5 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v6 : BitVec 32 := Scalar.addi v2 c0_i32_5
  let c0_i32_6 : BitVec 32 := 0#32
  let c0_i32_7 : BitVec 32 := 0#32
  ![v6.toNat, 0, 0]
abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  ![v2.toNat]
def k1_off2 (i : grid1.Coords) (c80_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v4 : BitVec 32 := Scalar.addi v2 c80_i32
  ![v4.toNat]
def k1_off3 (i : grid1.Coords) (c0_i32_5 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c800_i32 : BitVec 32 := 800#32
  let v2 : BitVec 32 := Scalar.muli v1 c800_i32
  let v6 : BitVec 32 := Scalar.addi v2 c0_i32_5
  let c0_i32_6 : BitVec 32 := 0#32
  let c0_i32_7 : BitVec 32 := 0#32
  ![v6.toNat, 0, 0]
abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage2_0 : Fin 2 → Memref sig .tc .vmem S800x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S50x16x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 3 → Nat :=
  let arg0 : BitVec 32 := BitVec.ofNat 32 (i 0).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![c0_i32.toNat, v0.toNat, c0_i32_0.toNat]

abbrev stage3_0 : Fin 2 → Memref sig .tc .vmem S800x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x2048 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x2048 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x2048 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x2048 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S50x16x2048 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1024x50 : Shape := ⟨2, ![1024, 50]⟩
abbrev S500x256 : Shape := ⟨2, ![500, 256]⟩
abbrev S256x1024 : Shape := ⟨2, ![256, 1024]⟩
abbrev S1024 : Shape := ⟨1, ![1024]⟩
abbrev S1024x2048 : Shape := ⟨2, ![1024, 2048]⟩
abbrev S2048 : Shape := ⟨1, ![2048]⟩
abbrev S_ : Shape := ⟨0, ![]⟩
abbrev S1024x50x1 : Shape := ⟨3, ![1024, 50, 1]⟩
abbrev S1 : Shape := ⟨1, ![1]⟩
abbrev S1x1x1 : Shape := ⟨3, ![1, 1, 1]⟩
abbrev S1024x50x256 : Shape := ⟨3, ![1024, 50, 256]⟩
abbrev S1024x50x1024 : Shape := ⟨3, ![1024, 50, 1024]⟩
abbrev S1x1x1024 : Shape := ⟨3, ![1, 1, 1024]⟩
abbrev S1024x50x2048 : Shape := ⟨3, ![1024, 50, 2048]⟩
abbrev S1x1x2048 : Shape := ⟨3, ![1, 1, 2048]⟩

abbrev nBuf : Space → Nat
  | .hbm => 92
  | .vmem => 0
  | .smem => 0
  | _ => 0

abbrev bufTy : (tb : Table) → Fin (tcTables nBuf tb) → BufTy
  | .hbm, ⟨0, _⟩ => ⟨S1024x50, .i32⟩
  | .hbm, ⟨1, _⟩ => ⟨S500x256, .f32⟩
  | .hbm, ⟨2, _⟩ => ⟨S256x1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S2048, .f32⟩
  | .hbm, ⟨7, _⟩ => ⟨S2048, .f32⟩
  | .hbm, ⟨8, _⟩ => ⟨S_, .i32⟩
  | .hbm, ⟨9, _⟩ => ⟨S1024x50, .i32⟩
  | .hbm, ⟨10, _⟩ => ⟨S1024x50, .i1⟩
  | .hbm, ⟨11, _⟩ => ⟨S_, .i32⟩
  | .hbm, ⟨12, _⟩ => ⟨S1024x50, .i32⟩
  | .hbm, ⟨13, _⟩ => ⟨S1024x50, .i32⟩
  | .hbm, ⟨14, _⟩ => ⟨S1024x50, .i32⟩
  | .hbm, ⟨15, _⟩ => ⟨S1024x50x1, .i32⟩
  | .hbm, ⟨16, _⟩ => ⟨S1, .i32⟩
  | .hbm, ⟨17, _⟩ => ⟨S_, .i32⟩
  | .hbm, ⟨18, _⟩ => ⟨S1024x50x1, .i32⟩
  | .hbm, ⟨19, _⟩ => ⟨S1024x50x1, .i1⟩
  | .hbm, ⟨20, _⟩ => ⟨S1x1x1, .i32⟩
  | .hbm, ⟨21, _⟩ => ⟨S1024x50x1, .i32⟩
  | .hbm, ⟨22, _⟩ => ⟨S1024x50x1, .i1⟩
  | .hbm, ⟨23, _⟩ => ⟨S1024x50x1, .i1⟩
  | .hbm, ⟨24, _⟩ => ⟨S_, .i1⟩
  | .hbm, ⟨25, _⟩ => ⟨S1024x50, .i1⟩
  | .hbm, ⟨26, _⟩ => ⟨S1024x50x256, .f32⟩
  | .hbm, ⟨27, _⟩ => ⟨S1024x50x256, .i1⟩
  | .hbm, ⟨28, _⟩ => ⟨S_, .f32⟩
  | .hbm, ⟨29, _⟩ => ⟨S1024x50x256, .f32⟩
  | .hbm, ⟨30, _⟩ => ⟨S1024x50x256, .f32⟩
  | .hbm, ⟨31, _⟩ => ⟨S1024x50x1024, .f32⟩
  | .hbm, ⟨32, _⟩ => ⟨S1x1x1024, .f32⟩
  | .hbm, ⟨33, _⟩ => ⟨S1024x50x1024, .f32⟩
  | .hbm, ⟨34, _⟩ => ⟨S1024x50x1024, .f32⟩
  | .hbm, ⟨35, _⟩ => ⟨S_, .f32⟩
  | .hbm, ⟨36, _⟩ => ⟨S1024x50x1024, .f32⟩
  | .hbm, ⟨37, _⟩ => ⟨S1024x50x1024, .f32⟩
  | .hbm, ⟨38, _⟩ => ⟨S1024x50x1024, .f32⟩
  | .hbm, ⟨39, _⟩ => ⟨S_, .f32⟩
  | .hbm, ⟨40, _⟩ => ⟨S1024x50x1024, .f32⟩
  | .hbm, ⟨41, _⟩ => ⟨S1024x50x1024, .f32⟩
  | .hbm, ⟨42, _⟩ => ⟨S1024x50x1024, .f32⟩
  | .hbm, ⟨43, _⟩ => ⟨S1024x50x1024, .f32⟩
  | .hbm, ⟨44, _⟩ => ⟨S1024x50x2048, .f32⟩
  | .hbm, ⟨45, _⟩ => ⟨S1x1x2048, .f32⟩
  | .hbm, ⟨46, _⟩ => ⟨S1024x50x2048, .f32⟩
  | .hbm, ⟨47, _⟩ => ⟨S1024x50x2048, .f32⟩
  | .hbm, ⟨48, _⟩ => ⟨S_, .f32⟩
  | .hbm, ⟨49, _⟩ => ⟨S1024x50, .f32⟩
  | .hbm, ⟨50, _⟩ => ⟨S1024x50x1, .f32⟩
  | .hbm, ⟨51, _⟩ => ⟨S_, .f32⟩
  | .hbm, ⟨52, _⟩ => ⟨S1024x50x1, .f32⟩
  | .hbm, ⟨53, _⟩ => ⟨S1024x50x1, .f32⟩
  | .hbm, ⟨54, _⟩ => ⟨S_, .i32⟩
  | .hbm, ⟨55, _⟩ => ⟨S_, .f32⟩
  | .hbm, ⟨56, _⟩ => ⟨S1024x50, .f32⟩
  | .hbm, ⟨57, _⟩ => ⟨S1024x50x1, .f32⟩
  | .hbm, ⟨58, _⟩ => ⟨S_, .f32⟩
  | .hbm, ⟨59, _⟩ => ⟨S1024x50x1, .f32⟩
  | .hbm, ⟨60, _⟩ => ⟨S1024x50x1, .f32⟩
  | .hbm, ⟨61, _⟩ => ⟨S1024x50x2048, .f32⟩
  | .hbm, ⟨62, _⟩ => ⟨S1024x50x2048, .f32⟩
  | .hbm, ⟨63, _⟩ => ⟨S1024x50x2048, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S1024x50, .f32⟩
  | .hbm, ⟨69, _⟩ => ⟨S1024x50x1, .f32⟩
  | .hbm, ⟨70, _⟩ => ⟨S1024x50x1, .f32⟩
  | .hbm, ⟨71, _⟩ => ⟨S1024x50x1, .f32⟩
  | .hbm, ⟨72, _⟩ => ⟨S_, .f32⟩
  | .hbm, ⟨73, _⟩ => ⟨S_, .i1⟩
  | .hbm, ⟨74, _⟩ => ⟨S_, .f32⟩
  | .hbm, ⟨75, _⟩ => ⟨S_, .f32⟩
  | .hbm, ⟨76, _⟩ => ⟨S1024x50x1, .f32⟩
  | .hbm, ⟨77, _⟩ => ⟨S1024x50x1, .f32⟩
  | .hbm, ⟨78, _⟩ => ⟨S1024x50x2048, .f32⟩
  | .hbm, ⟨79, _⟩ => ⟨S1024x50x2048, .f32⟩
  | .hbm, ⟨80, _⟩ => ⟨S_, .f32⟩
  | .hbm, ⟨81, _⟩ => ⟨S1024x50x1, .f32⟩
  | .hbm, ⟨82, _⟩ => ⟨S1024x50x1, .f32⟩
  | .hbm, ⟨83, _⟩ => ⟨S1024x50x1, .f32⟩
  | .hbm, ⟨84, _⟩ => ⟨S1024x50x2048, .f32⟩
  | .hbm, ⟨85, _⟩ => ⟨S1024x50x2048, .f32⟩
  | .hbm, ⟨86, _⟩ => ⟨S1x1x2048, .f32⟩
  | .hbm, ⟨87, _⟩ => ⟨S1024x50x2048, .f32⟩
  | .hbm, ⟨88, _⟩ => ⟨S1024x50x2048, .f32⟩
  | .hbm, ⟨89, _⟩ => ⟨S1x1x2048, .f32⟩
  | .hbm, ⟨90, _⟩ => ⟨S1024x50x2048, .f32⟩
  | .hbm, ⟨91, _⟩ => ⟨S1024x50x2048, .f32⟩
  | _, _ => ⟨S1024x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_0 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_1 : Ref sig .tc := ⟨.hbm, 48, rfl⟩
abbrev main_v16 : Ref sig .tc := ⟨.hbm, 49, rfl⟩
abbrev main_v17 : Ref sig .tc := ⟨.hbm, 50, rfl⟩
abbrev main_cst_2 : Ref sig .tc := ⟨.hbm, 51, rfl⟩
abbrev main_v18 : Ref sig .tc := ⟨.hbm, 52, rfl⟩
abbrev main_v19 : Ref sig .tc := ⟨.hbm, 53, rfl⟩
abbrev main_c : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_cst_0 : Ref sig .tc := ⟨.hbm, 58, rfl⟩
abbrev main_call1_v2 : Ref sig .tc := ⟨.hbm, 59, rfl⟩
abbrev main_call1_v3 : Ref sig .tc := ⟨.hbm, 60, rfl⟩
abbrev main_call1_v4 : Ref sig .tc := ⟨.hbm, 61, rfl⟩
abbrev main_call1_v5 : Ref sig .tc := ⟨.hbm, 62, rfl⟩
abbrev main_call1_v6 : Ref sig .tc := ⟨.hbm, 63, rfl⟩
abbrev main_call1_v7 : Ref sig .tc := ⟨.hbm, 64, rfl⟩
abbrev main_call1_cst_1 : Ref sig .tc := ⟨.hbm, 65, rfl⟩
abbrev main_call1_v8 : Ref sig .tc := ⟨.hbm, 66, rfl⟩
abbrev main_call1_cst_2 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_cst_3 : Ref sig .tc := ⟨.hbm, 72, rfl⟩
abbrev main_call1_v13 : Ref sig .tc := ⟨.hbm, 73, rfl⟩
abbrev main_call1_cst_4 : Ref sig .tc := ⟨.hbm, 74, rfl⟩
abbrev main_call1_call0_v0 : Ref sig .tc := ⟨.hbm, 75, rfl⟩
abbrev main_call1_call0_v1 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_cst_3 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩

abbrev nD : Nat := 1
abbrev τ : Topo := Topo.v7x

variable {F : FTy → Type} [FloatOps F]
-- ==== Proof.Sc.Common.lean ====
/-
  What the launch of this program is made of, shared by every module below: the labels and definitions the launch
  theorem sees, and the certificate's ghost state — the SparseCore handshakes' rounds, the TensorCore pipelines'
  rounds, and the counters that local transfers draw from, side by side.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.FrameBody
public import Idealize.ShloMosaic.Lib.Pipeline.Value
public import Idealize.ShloMosaic.Lib.Pipeline.Regions
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the program's TensorCore side: the kernels' own and one entry per pipeline. -/
abbrev ΛP : Labels := Pipeline.Sig Λ₀ (Fin 2) fun p => (pcfgs (F := F) p).Adm
/-- The program's two SparseCore calls. -/
abbrev K : SparseCore.Cfg τ sig (ΛP (F := F)) 2 := sc (F := F)
/-- The definitions under the SparseCore layer: the pipelines over the kernels' bodies. -/
abbrev D [FloatOps F] : Defs nD τ sig (Elt F) (ΛP (F := F)) := Pipeline.defs pcfgs defs₀
/-- No loop needs a variant. -/
abbrev 𝒱₀ : Variants := Variants.none
/-- The same, over the program with its SparseCore calls. -/
abbrev 𝒱 : Variants := 𝒱₀.lift
/-- Its one value. -/
abbrev v₀ : 𝒱.V := Sum.inl none

/-- The handshakes' rounds. -/
abbrev UH : Type := URounds (GSem nD τ sig) ℕ
/-- The pipelines' rounds. -/
abbrev UP : Type := URounds (GSem nD τ sig) Unit
/-- The certificate's own ghost state. -/
abbrev UU : Type := UH × (UP × Counters)

/-- The whole ghost state over values of `F`. -/
abbrev MM (F : FTy → Type) : Type := MT nD τ sig (HIx 2) (Elt F) ℕ UU ℕ

/-- Where the handshakes' rounds live in it. -/
abbrev EH : Emb UH (MM F) := embL
/-- Where the pipelines' rounds live in it. -/
abbrev EP : Emb UP (MM F) := (Emb.inl : Emb UP (UP × Counters)).trans embR

/-- The protocol's ghost state lies in the user part. -/
instance EP_landsIn : (EP : Emb UP (MM F)).LandsIn (upEmb : UEmb _ (MM F)) := by unfold EP; infer_instance

/-- What the launch theorem asks of the two calls' semaphores and buffers. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

end Cert.Proof.Sc

end
-- ==== Proof.Sc.Gathered.lean ====
/-
  What the gather calls compute, as a function of the table and the index list, and that a chunk's payload is that
  function on the chunk's rows.
-/
module

public import proofs.«01_k».proof.Proof.Sc.Common

@[expose] public section

noncomputable section

namespace Cert.Proof.Sc

open Cert.KernelIdeal Cert.KernelIdeal.Gen
open Idealize.ShloMosaic

variable {F : FTy → Type}

/-- The row of the table a word names: the word itself where it is below 500. -/
def rowOf (w : BitVec 32) : Fin 500 := ⟨w.toNat % 500, Nat.mod_lt _ (by decide)⟩

/-- Position `(r, a, b)` of the table. -/
def tabIx (r : Fin 500) (a : Fin 2) (b : Fin 128) : S500x2x128.Idx := fun i => match i with
  | ⟨0, _⟩ => r
  | ⟨1, _⟩ => a
  | ⟨2, _⟩ => b

/-- Position `j` of the index list. -/
def idIx (j : Fin 25600) : S25600.Idx := fun i => match i with
  | ⟨0, _⟩ => j

/-- The gathered rows: row `j` of the result is the table's row that word `j` of the list names. -/
def gathered (tab : S500x2x128.Idx → Elt F .f32) (ids : S25600.Idx → BitVec 32) : S25600x2x128.Idx → Elt F .f32 :=
  fun y => tab (tabIx (rowOf (ids (idIx (y 0)))) (y 1) (y 2))

/-- The rectangle of chunk `k` of the tile at grid point `L`. -/
abbrev oRect (L : grid0.Coords) (k : Fin 10) : Rect S25600x2x128 :=
  Rect.unit (s := S25600x2x128) (k0_off3 L (BitVec.ofNat 32 (80 * k.val))) S80x2x128.size (k0_off3_inb L k)

/-- A chunk's payload is the gathered rows on the chunk, where the list was copied from the chunk's own words. -/
theorem payload_value {κ κ' κ'' : Kind} {sp sp' sp'' : Space} (L : grid0.Coords) (k : Fin 10)
    (arg2 : Memref sig κ sp S25600 .i32) (arg3 : Memref sig κ' sp' S500x2x128 .f32) (arg5 : Memref sig κ'' sp'' S80 .i32)
    (fi : arg2.view.ty.Contents (Elt F)) (ft : arg3.view.ty.Contents (Elt F)) (g : arg5.view.ty.Contents (Elt F))
    (off : Fin 1 → ℕ) (hoff : off 0 = k0_off3 L (BitVec.ofNat 32 (80 * k.val)) 0) (h : ∀ a, off a + S80.size a ≤ S25600.size a)
    (hs : ∀ a, (Rect.unit (s := S25600) off S80.size h).stride a = 1)
    (hs' : ∀ a, (Rect.unit (s := S500x2x128) ![0, 0, 0] S500x2x128.size inb_S500x2x128_S500x2x128_0_0_0).stride a = 1)
    (hn : S80.numel = S80x2x128.size gathers_S500x2x128_S80x2x128.axis')
    (hin : ∀ x, (arg5.view.read (Elt F) (View.write (Elt F) arg5.view g (ReadAs.same.apply
      ((arg2.slice (Rect.unit (s := S25600) off S80.size h) hs).view.read (Elt F) fi)) Finset.univ) x).toNat
      < S500x2x128.size gathers_S500x2x128_S80x2x128.axis) (x : S80x2x128.Idx) :
    SparseCore.gatherPayload gathers_S500x2x128_S80x2x128
      ((arg3.slice (Rect.unit (s := S500x2x128) ![0, 0, 0] S500x2x128.size inb_S500x2x128_S500x2x128_0_0_0) hs').view.read (Elt F) ft)
      (SparseCore.rows (arg5.view.read (Elt F) (View.write (Elt F) arg5.view g (ReadAs.same.apply
        ((arg2.slice (Rect.unit (s := S25600) off S80.size h) hs).view.read (Elt F) fi)) Finset.univ)) hn hin) x
    = gathered (arg3.view.read (Elt F) ft) (arg2.view.read (Elt F) fi) ((oRect L k).emb x) := by
  have hw : (SparseCore.rows (arg5.view.read (Elt F) (View.write (Elt F) arg5.view g (ReadAs.same.apply
        ((arg2.slice (Rect.unit (s := S25600) off S80.size h) hs).view.read (Elt F) fi)) Finset.univ)) hn hin (x 0)).val
      = (arg2.view.read (Elt F) fi (idIx ((oRect L k).emb x 0))).toNat := by
    unfold SparseCore.rows
    show (View.read (Elt F) arg5.view _ (S80.rowMajor.symm ((x 0).cast hn.symm))).toNat = _
    rw [View.read_write_univ]
    show (arg2.view.read (Elt F) fi ((Rect.unit (s := S25600) off S80.size h).emb (S80.rowMajor.symm ((x 0).cast hn.symm)))).toNat = _
    refine congrArg (fun z => (arg2.view.read (Elt F) fi z).toNat) (funext fun a => Fin.ext ?_)
    obtain rfl : a = 0 := Subsingleton.elim (α := Fin 1) _ _
    have hm := Shape.rowMajor_val_one (d := ![80]) (S80.rowMajor.symm ((x 0).cast hn.symm))
    have hm' : (S80.rowMajor (S80.rowMajor.symm ((x 0).cast hn.symm))).val = (x 0).val := by rw [Equiv.apply_symm_apply]; rfl
    show off 0 + 1 * (S80.rowMajor.symm ((x 0).cast hn.symm) 0).val = k0_off3 L (BitVec.ofNat 32 (80 * k.val)) 0 + 1 * (x 0).val
    rw [hoff, ← hm, hm']
  have hlt : (arg2.view.read (Elt F) fi (idIx ((oRect L k).emb x 0))).toNat < 500 := hw ▸ Fin.isLt _
  unfold SparseCore.gatherPayload gathered
  show arg3.view.read (Elt F) ft ((Rect.unit (s := S500x2x128) ![0, 0, 0] S500x2x128.size inb_S500x2x128_S500x2x128_0_0_0).emb _) = _
  refine congrArg (arg3.view.read (Elt F) ft) (funext fun a => Fin.ext ?_)
  match a with
  | ⟨0, _⟩ =>
    show 0 + 1 * (gathers_S500x2x128_S80x2x128.idx _ x gathers_S500x2x128_S80x2x128.axis).val = _
    rw [Shape.Gathers.idx_axis, Nat.zero_add, Nat.one_mul]
    exact hw.trans (Nat.mod_eq_of_lt hlt).symm
  | ⟨1, _⟩ =>
    exact congrArg (fun n => 0 + 1 * n) (Shape.Gathers.idx_of_ne gathers_S500x2x128_S80x2x128 _ x (1 : Fin 3) (by decide))
  | ⟨2, _⟩ =>
    exact congrArg (fun n => 0 + 1 * n) (Shape.Gathers.idx_of_ne gathers_S500x2x128_S80x2x128 _ x (2 : Fin 3) (by decide))

/-- A chunk written whole from a buffer whose last write was the chunk's payload holds the gathered rows. -/
theorem chunk_value {κ κ' : Kind} {sp sp' : Space} (m : Memref sig κ sp S80x2x128 .f32) (m' : Memref sig κ' sp' S80x2x128 .f32)
    (fo : m.view.ty.Contents (Elt F)) (g : m'.view.ty.Contents (Elt F)) (p : S80x2x128.Idx → Elt F .f32) (l : List (View.Piece (Elt F) S80x2x128 .f32))
    (x : S80x2x128.Idx) :
    m.view.read (Elt F) (m.view.writes (Elt F) fo [⟨Rect.whole S80x2x128, ReadAs.same.apply
      (m'.view.read (Elt F) (m'.view.writes (Elt F) g (⟨Rect.whole S80x2x128, p⟩ :: l)))⟩]) x = p x := by
  rw [View.read_writes_whole]
  show m'.view.read (Elt F) _ x = p x
  have h := View.read_writes_cons_emb m'.view g (Rect.whole S80x2x128) p l x
  rwa [Rect.emb_whole_apply] at h

end Cert.Proof.Sc

end
-- ==== Proof.Sc.TileRun.lean ====
/-
  One tile's task of a gather call, run once for both calls.
-/
module

public import proofs.«01_k».proof.Proof.Sc.Gathered

@[expose] public section

noncomputable section

namespace Cert.Proof.Sc

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 2) (Elt F) ℕ UU ℕ

/-- The core of a grid point, -/
abbrev cV (L : grid0.Coords) : Fin τ.nSC := (L 0).castLE hcore0
/-- and its subcore. -/
abbrev jV (L : grid0.Coords) : Fin τ.nSub := (L 1).castLE hsub0
/-- The thread of the tile at grid point `L` of device `d`. -/
abbrev VT (d : Dev nD) (L : grid0.Coords) : Thread nD τ := V d (cV L) (jV L)

section

variable (d : Dev nD) (L : grid0.Coords)
  (arg2 : Memref sig .scVector .hbm S25600 .i32) (harg2 : arg2.IsWhole)
  (arg3 : Memref sig .scVector .hbm S500x2x128 .f32) (harg3 : arg3.IsWhole)
  (arg4 : Memref sig .scVector .hbm S25600x2x128 .f32) (harg4 : arg4.IsWhole)
  (arg5 : Memref sig .scVector .vmem S80 .i32) (harg5 : arg5.IsWhole)
  (arg6 : Memref sig .scVector .vmem S80 .i32) (harg6 : arg6.IsWhole)
  (arg7 : Memref sig .scVector .vmem S80x2x128 .f32) (harg7 : arg7.IsWhole)
  (arg8 : Memref sig .scVector .vmem S80x2x128 .f32) (harg8 : arg8.IsWhole)
  (arg9 arg10 arg11 arg12 r0 r1 r2 r3 r4 r5 r6 r7 r8 r9 : DmaSems sig S_)

/-- Chunk `k` of the tile's rows of the result, as the task slices it. -/
abbrev oChunk (k : Fin 10) : Memref sig .scVector .hbm S80x2x128 .f32 :=
  arg4.slice (Rect.unit (s := S25600x2x128) (k0_off3 L (BitVec.ofNat 32 (80 * k.val))) S80x2x128.size (k0_off3_inb L k)) (fun _ => rfl)

/-- The tile holds chunk `k` of the result at contents `f`. -/
abbrev oPts (k : Fin 10) (f : Buf (Elt F) (arg4.view.loc (VT d L))) : sProp 𝕄 :=
  (oChunk L arg4 k).view.loc (VT d L) ↦[(oChunk L arg4 k).view.set]{fullShare} f

/-- The tile holds chunk `k` of the result, reading the gathered rows there. -/
abbrev oDone (k : Fin 10) (G : S25600x2x128.Idx → Elt F .f32) : sProp 𝕄 :=
  iprop(∃ f : Buf (Elt F) (arg4.view.loc (VT d L)), ⌜∀ x, (oChunk L arg4 k).view.read (Elt F) f x = G ((oRect L k).emb x)⌝ ∗ oPts d L arg4 k f)

/-- One DMA semaphore of the tile, at zero. -/
abbrev cellAt (s : DmaSems sig S_) : sProp 𝕄 := semVal (VT d L, SemLoc.dma s.sem) 0

omit [FloatOps F] in
/-- Waits recorded under the transfers' own index stay among the allowed ones. -/
theorem mem_insert_ok {W W' : Waits sig (HIx 2)} (h : ∀ p ∈ W', p ∈ W ∨ p.2 = none) (s : SemLoc sig) :
    ∀ p ∈ insert (s, (default : HIx 2)) W', p ∈ W ∨ p.2 = none := fun p hp =>
  (Finset.mem_insert.mp hp).elim (fun e => Or.inr (by rw [e]; rfl)) (h p)

set_option maxRecDepth 65536 in
set_option maxHeartbeats 4000000 in
/-- The task of the tile at `L`: from shares of the list and the table, its ten chunks of the result and its own
    scratch, it ends with each chunk holding the gathered rows and everything else back. -/
theorem tile_run (qi qt : PosShare TreeShare) (fi : Buf (Elt F) (arg2.view.loc (VT d L))) (ft : Buf (Elt F) (arg3.view.loc (VT d L)))
    (fo : Buf (Elt F) (arg4.view.loc (VT d L)))
    (g5 : Buf (Elt F) (arg5.view.loc (VT d L))) (g6 : Buf (Elt F) (arg6.view.loc (VT d L)))
    (g7 : Buf (Elt F) (arg7.view.loc (VT d L))) (g8 : Buf (Elt F) (arg8.view.loc (VT d L)))
    (hin5 : ∀ (g : Buf (Elt F) (arg5.view.loc (VT d L))) (off : Fin 1 → ℕ) (h : ∀ a, off a + S80.size a ≤ S25600.size a) (x : S80.Idx),
      (arg5.view.read (Elt F) (View.write (Elt F) arg5.view g (ReadAs.same.apply ((arg2.slice (Rect.unit (s := S25600) off S80.size h) (fun _ => rfl)).view.read (Elt F) fi)) Finset.univ) x).toNat
        < S500x2x128.size gathers_S500x2x128_S80x2x128.axis)
    (hin6 : ∀ (g : Buf (Elt F) (arg6.view.loc (VT d L))) (off : Fin 1 → ℕ) (h : ∀ a, off a + S80.size a ≤ S25600.size a) (x : S80.Idx),
      (arg6.view.read (Elt F) (View.write (Elt F) arg6.view g (ReadAs.same.apply ((arg2.slice (Rect.unit (s := S25600) off S80.size h) (fun _ => rfl)).view.read (Elt F) fi)) Finset.univ) x).toNat
        < S500x2x128.size gathers_S500x2x128_S80x2x128.axis)
    (O : CellTallies nD τ sig (HIx 2)) (W : Waits sig (HIx 2)) (hO : ∀ g, O g none = 0) :
    iprop(levAts (K (F := F)).L (K (F := F)).lev
        ∗ (arg2.view.loc (VT d L) ↦{qi} fi) ∗ (arg3.view.loc (VT d L) ↦{qt} ft)
        ∗ (oPts d L arg4 0 fo ∗ oPts d L arg4 1 fo ∗ oPts d L arg4 2 fo ∗ oPts d L arg4 3 fo ∗ oPts d L arg4 4 fo
          ∗ oPts d L arg4 5 fo ∗ oPts d L arg4 6 fo ∗ oPts d L arg4 7 fo ∗ oPts d L arg4 8 fo ∗ oPts d L arg4 9 fo)
        ∗ (arg5.view.loc (VT d L) ↦{fullShare} g5) ∗ (arg6.view.loc (VT d L) ↦{fullShare} g6)
        ∗ (arg7.view.loc (VT d L) ↦{fullShare} g7) ∗ (arg8.view.loc (VT d L) ↦{fullShare} g8)
        ∗ (cellAt d L arg9 ∗ cellAt d L arg10 ∗ cellAt d L arg11 ∗ cellAt d L arg12)
        ∗ (cellAt d L r0 ∗ cellAt d L r1 ∗ cellAt d L r2 ∗ cellAt d L r3 ∗ cellAt d L r4 ∗ cellAt d L r5 ∗ cellAt d L r6
          ∗ cellAt d L r7 ∗ cellAt d L r8 ∗ cellAt d L r9)
        ∗ owes (VT d L) O W)
      ⊢ wp frame (wpE (defs₀ (F := F)) 𝒱₀ (VT d L) none) Set.univ
          (cc0_sc_gather L arg2 harg2 arg3 harg3 arg4 harg4 arg5 harg5 arg6 harg6 arg7 harg7 arg8 harg8 arg9 arg10 arg11 arg12 r0 r1 r2 r3 r4 r5 r6 r7 r8 r9)
          fun _ => iprop((arg2.view.loc (VT d L) ↦{qi} fi) ∗ (arg3.view.loc (VT d L) ↦{qt} ft)
            ∗ (oDone d L arg4 0 (gathered (arg3.view.read (Elt F) ft) (arg2.view.read (Elt F) fi))
              ∗ oDone d L arg4 1 (gathered (arg3.view.read (Elt F) ft) (arg2.view.read (Elt F) fi))
              ∗ oDone d L arg4 2 (gathered (arg3.view.read (Elt F) ft) (arg2.view.read (Elt F) fi))
              ∗ oDone d L arg4 3 (gathered (arg3.view.read (Elt F) ft) (arg2.view.read (Elt F) fi))
              ∗ oDone d L arg4 4 (gathered (arg3.view.read (Elt F) ft) (arg2.view.read (Elt F) fi))
              ∗ oDone d L arg4 5 (gathered (arg3.view.read (Elt F) ft) (arg2.view.read (Elt F) fi))
              ∗ oDone d L arg4 6 (gathered (arg3.view.read (Elt F) ft) (arg2.view.read (Elt F) fi))
              ∗ oDone d L arg4 7 (gathered (arg3.view.read (Elt F) ft) (arg2.view.read (Elt F) fi))
              ∗ oDone d L arg4 8 (gathered (arg3.view.read (Elt F) ft) (arg2.view.read (Elt F) fi))
              ∗ oDone d L arg4 9 (gathered (arg3.view.read (Elt F) ft) (arg2.view.read (Elt F) fi)))
            ∗ (∃ g, arg5.view.loc (VT d L) ↦{fullShare} g) ∗ (∃ g, arg6.view.loc (VT d L) ↦{fullShare} g)
            ∗ (∃ g, arg7.view.loc (VT d L) ↦{fullShare} g) ∗ (∃ g, arg8.view.loc (VT d L) ↦{fullShare} g)
            ∗ (cellAt d L arg9 ∗ cellAt d L arg10 ∗ cellAt d L arg11 ∗ cellAt d L arg12)
            ∗ (cellAt d L r0 ∗ cellAt d L r1 ∗ cellAt d L r2 ∗ cellAt d L r3 ∗ cellAt d L r4 ∗ cellAt d L r5 ∗ cellAt d L r6
              ∗ cellAt d L r7 ∗ cellAt d L r8 ∗ cellAt d L r9)
            ∗ (∃ W' : Waits sig (HIx 2), ⌜∀ p ∈ W', p ∈ W ∨ p.2 = none⌝ ∗ owes (VT d L) O W')) := by
  simp only [cc0_sc_gather_eq_skeleton]; unfold cc0_sc_gather_skel
  simp only [k0_part1_eq_skeleton, k0_part2_eq_skeleton, k0_part3_eq_skeleton, k0_part4_eq_skeleton, k0_part5_eq_skeleton]
  -- parts
  iintro ⟨#Hlv, Hi, Ht, ⟨Ho0, Ho1, Ho2, Ho3, Ho4, Ho5, Ho6, Ho7, Ho8, Ho9⟩, H5, H6, H7, H8, ⟨Hs9, Hs10, Hs11, Hs12⟩,
    ⟨Hr0, Hr1, Hr2, Hr3, Hr4, Hr5, Hr6, Hr7, Hr8, Hr9⟩, HO⟩
  ihave Hmw := (show levAts (K (F := F)).L (K (F := F)).lev ⊢ Transfers.MayWaits (VT d L) (default : HIx 2) O from
    (K (F := F)).mayWaits_none (thr := VT d L) hO) $$ Hlv
  sl_exec
  sl_step
  have hv0 : k0_off1 L 0 = k0_off3 L (BitVec.ofNat 32 (80 * (0 : Fin 10).val)) 0 := by
    show (_ : BitVec 32).toNat = (_ + BitVec.ofNat 32 (80 * 0)).toNat
    rw [show BitVec.ofNat 32 (80 * 0) = 0#32 from rfl, BitVec.add_zero]
  isplitl [Hi]; · iexact Hi
  isplitl [Ht]; · iexact Ht
  isplitl [Ho0 Ho1 Ho2 Ho3 Ho4 Ho5 Ho6 Ho7 Ho8 Ho9]
  · isplitl [Ho0]
    · iexists _; isplitr [Ho0]; rotate_left; · iexact Ho0
      ipureintro; exact fun x => (chunk_value _ _ _ _ _ _ x).trans (payload_value L 0 _ _ _ _ _ _ _ hv0 _ _ _ _ _ x)
    isplitl [Ho1]
    · iexists _; isplitr [Ho1]; rotate_left; · iexact Ho1
      ipureintro; exact fun x => (chunk_value _ _ _ _ _ _ x).trans (payload_value L 1 _ _ _ _ _ _ _ rfl _ _ _ _ _ x)
    isplitl [Ho2]
    · iexists _; isplitr [Ho2]; rotate_left; · iexact Ho2
      ipureintro; exact fun x => (chunk_value _ _ _ _ _ _ x).trans (payload_value L 2 _ _ _ _ _ _ _ rfl _ _ _ _ _ x)
    isplitl [Ho3]
    · iexists _; isplitr [Ho3]; rotate_left; · iexact Ho3
      ipureintro; exact fun x => (chunk_value _ _ _ _ _ _ x).trans (payload_value L 3 _ _ _ _ _ _ _ rfl _ _ _ _ _ x)
    isplitl [Ho4]
    · iexists _; isplitr [Ho4]; rotate_left; · iexact Ho4
      ipureintro; exact fun x => (chunk_value _ _ _ _ _ _ x).trans (payload_value L 4 _ _ _ _ _ _ _ rfl _ _ _ _ _ x)
    isplitl [Ho5]
    · iexists _; isplitr [Ho5]; rotate_left; · iexact Ho5
      ipureintro; exact fun x => (chunk_value _ _ _ _ _ _ x).trans (payload_value L 5 _ _ _ _ _ _ _ rfl _ _ _ _ _ x)
    isplitl [Ho6]
    · iexists _; isplitr [Ho6]; rotate_left; · iexact Ho6
      ipureintro; exact fun x => (chunk_value _ _ _ _ _ _ x).trans (payload_value L 6 _ _ _ _ _ _ _ rfl _ _ _ _ _ x)
    isplitl [Ho7]
    · iexists _; isplitr [Ho7]; rotate_left; · iexact Ho7
      ipureintro; exact fun x => (chunk_value _ _ _ _ _ _ x).trans (payload_value L 7 _ _ _ _ _ _ _ rfl _ _ _ _ _ x)
    isplitl [Ho8]
    · iexists _; isplitr [Ho8]; rotate_left; · iexact Ho8
      ipureintro; exact fun x => (chunk_value _ _ _ _ _ _ x).trans (payload_value L 8 _ _ _ _ _ _ _ rfl _ _ _ _ _ x)
    iexists _; isplitr [Ho9]; rotate_left; · iexact Ho9
    ipureintro; exact fun x => (chunk_value _ _ _ _ _ _ x).trans (payload_value L 9 _ _ _ _ _ _ _ rfl _ _ _ _ _ x)
  isplitl [H5]; · iexists _; iexact H5
  isplitl [H6]; · iexists _; iexact H6
  isplitl [H7]; · iexists _; iexact H7
  isplitl [H8]; · iexists _; iexact H8
  isplitl [Hs9 Hs10 Hs11 Hs12]
  · isplitl [Hs9]; · iexact Hs9
    isplitl [Hs10]; · iexact Hs10
    isplitl [Hs11]; · iexact Hs11
    iexact Hs12
  isplitl [Hr0 Hr1 Hr2 Hr3 Hr4 Hr5 Hr6 Hr7 Hr8 Hr9]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    iexact Hr9
  iexists _; isplitr [HO]; rotate_left; · iexact HO
  ipureintro
  repeat' first | exact fun p hp => Or.inl hp | apply mem_insert_ok

end

end Cert.Proof.Sc

end
-- ==== Proof.Sc.Payload.lean ====
/-
  What one tile of a gather call holds — read shares of the index list and the table, its ten chunks of the result —,
  that the tiles' holdings are together the three arrays whole, and what the launch's handshakes carry.
-/
module

public import proofs.«01_k».proof.Proof.Sc.TileRun

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- The grid point of SparseCore `c` and vector subcore `s`. -/
def cs (c : Fin 2) (s : Fin 16) : grid0.Coords :=
  fun | 0 => c | 1 => s | ⟨_ + 2, h⟩ => absurd h (Nat.not_lt.2 (Nat.le_add_left _ _))

/-- The read share of the tile `(c, s)`: the full share dealt among the 32 tiles. -/
def rq (c : Fin 2) (s : Fin 16) : PosShare TreeShare :=
  Transfers.dealOf fullShare (Finset.univ : Finset (Fin 32)) (finProdFinEquiv (m := 2) (n := 16) (c, s))

/-- An array whole is the 32 tiles' read shares of it. -/
theorem shares_eq (ℓ : Loc nD τ sig) (f : Buf (Elt F) ℓ) :
    (ℓ ↦{fullShare} f : sProp 𝕄) = bigSep Finset.univ fun c : Fin 2 => bigSep Finset.univ fun s : Fin 16 => ℓ ↦{rq c s} f := by
  rw [Transfers.pointsTo_deal (Finset.univ : Finset (Fin 32)) Finset.univ_nonempty fullShare,
    bigSep_univ_equiv (finProdFinEquiv (m := 2) (n := 16)) (fun i : Fin 32 => (ℓ ↦{Transfers.dealOf fullShare Finset.univ i} f : sProp 𝕄)),
    bigSep_univ_prod]
  rfl

/-- The chunk a position of the result lies in, by the position's row. -/
theorem mem_oRect (c : Fin 2) (s : Fin 16) (k : Fin 10) (y : S25600x2x128.Idx) :
    y ∈ (oRect (cs c s) k).set ↔ (y 0).val / 80 = 20 * s.val + 10 * c.val + k.val := by
  rw [Rect.mem_set_unit, k0_off3_eq]
  have h1 : (y 1).val < 2 := (y 1).isLt
  have h2 : (y 2).val < 128 := (y 2).isLt
  have hc : (cs c s 0).val = c.val := rfl
  have hs : (cs c s 1).val = s.val := rfl
  constructor
  · intro h
    have h0 := h 0
    simp only [Matrix.cons_val_zero, hc, hs] at h0
    have e : S80x2x128.size 0 = 80 := rfl
    omega
  · intro h a
    match a with
    | ⟨0, _⟩ =>
      show 1600 * (cs c s 1).val + 800 * (cs c s 0).val + 80 * k.val ≤ (y 0).val
        ∧ (y 0).val < 1600 * (cs c s 1).val + 800 * (cs c s 0).val + 80 * k.val + 80
      rw [hc, hs]; omega
    | ⟨1, _⟩ => exact ⟨Nat.zero_le _, by show (y 1).val < 0 + 2; omega⟩
    | ⟨2, _⟩ => exact ⟨Nat.zero_le _, by show (y 2).val < 0 + 128; omega⟩

/-- The chunks of all tiles, by SparseCore, subcore and number. -/
abbrev chunkSet (t : Fin 2 × Fin 16 × Fin 10) : Finset S25600x2x128.Idx := (oRect (cs t.1 t.2.1) t.2.2).set

/-- Two different chunks share no position. -/
theorem chunks_disjoint (t : Fin 2 × Fin 16 × Fin 10) (t' : Fin 2 × Fin 16 × Fin 10) (h : t ≠ t') : Disjoint (chunkSet t) (chunkSet t') := by
  rw [Finset.disjoint_left]
  intro y hy hy'
  rw [mem_oRect] at hy hy'
  obtain ⟨c, s, k⟩ := t
  obtain ⟨c', s', k'⟩ := t'
  refine h ?_
  have hk := k.isLt; have hk' := k'.isLt; have hc := c.isLt; have hc' := c'.isLt
  simp only at hy hy'
  have e1 : k.val = k'.val := by omega
  have e2 : c.val = c'.val := by omega
  have e3 : s.val = s'.val := by omega
  rw [Fin.ext e1, Fin.ext e2, Fin.ext e3]

/-- Every position lies in a chunk. -/
theorem chunks_cover : (Finset.univ : Finset (Fin 2 × Fin 16 × Fin 10)).biUnion chunkSet = Finset.univ := by
  refine Finset.eq_univ_iff_forall.mpr fun y => Finset.mem_biUnion.mpr ?_
  have h0 : (y 0).val < 25600 := (y 0).isLt
  refine ⟨(⟨(y 0).val / 800 % 2, by omega⟩, ⟨(y 0).val / 1600, by omega⟩, ⟨(y 0).val / 80 % 10, by omega⟩), Finset.mem_univ _, ?_⟩
  rw [mem_oRect]
  show (y 0).val / 80 = 20 * ((y 0).val / 1600) + 10 * ((y 0).val / 800 % 2) + (y 0).val / 80 % 10
  omega

/-- A result array whole is its chunks, tile by tile. -/
theorem chunks_eq (ℓ : Loc nD τ sig) (Ks : Fin 2 × Fin 16 × Fin 10 → Finset (Idx ℓ))
    (hd : ∀ t t', t ≠ t' → Disjoint (Ks t) (Ks t')) (hc : (Finset.univ : Finset (Fin 2 × Fin 16 × Fin 10)).biUnion Ks = Finset.univ) (f : Buf (Elt F) ℓ) :
    (ℓ ↦{fullShare} f : sProp 𝕄)
      = bigSep Finset.univ fun c : Fin 2 => bigSep Finset.univ fun s : Fin 16 => bigSep Finset.univ fun k : Fin 10 => ℓ ↦[Ks (c, s, k)]{fullShare} f := by
  rw [← hc, pointsTo_biUnion Finset.univ (ℓ := ℓ) Ks fun t _ t' _ h => hd t t' h, bigSep_univ_prod]
  refine bigSep_congr fun c _ => ?_
  rw [bigSep_univ_prod]

section Tile

variable (d : Dev nD) (c : Fin 2) (s : Fin 16)
  (arg2 : Memref sig .scVector .hbm S25600 .i32)
  (arg3 : Memref sig .scVector .hbm S500x2x128 .f32)
  (arg4 : Memref sig .scVector .hbm S25600x2x128 .f32)

/-- What the tile `(c, s)` holds of a call's arrays: shares of the list and the table, its chunks of the result at `fo`. -/
def tileHas (fi : Buf (Elt F) (arg2.view.loc (VT d (cs c s)))) (ft : Buf (Elt F) (arg3.view.loc (VT d (cs c s))))
    (fo : Buf (Elt F) (arg4.view.loc (VT d (cs c s)))) : sProp 𝕄 :=
  iprop((arg2.view.loc (VT d (cs c s)) ↦{rq c s} fi) ∗ (arg3.view.loc (VT d (cs c s)) ↦{rq c s} ft)
    ∗ bigSep Finset.univ fun k : Fin 10 => oPts d (cs c s) arg4 k fo)

/-- What a subcore is dealt can be handed between threads. -/
instance tileHas_storable (fi : Buf (Elt F) (arg2.view.loc (VT d (cs c s)))) (ft : Buf (Elt F) (arg3.view.loc (VT d (cs c s))))
    (fo : Buf (Elt F) (arg4.view.loc (VT d (cs c s)))) : BI.Storable (upEmb : UEmb _ 𝕄) (tileHas d c s arg2 arg3 arg4 fi ft fo) := by
  unfold tileHas; infer_instance

/-- Ten chunks in a row. -/
theorem bigSep_ten (Φ : Fin 10 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9) := by
  rw [bigSep_univ_eq_bigSepL [0, 1, 2, 3, 4, 5, 6, 7, 8, 9] (by decide) (by decide)]; rfl

/-- A finished chunk, where `f'` is a contents of the whole result that reads as `G` on the chunk. -/
theorem oDone_at (k : Fin 10) (G : S25600x2x128.Idx → Elt F .f32) (f' : Buf (Elt F) (arg4.view.loc (VT d (cs c s))))
    (hf' : ∀ x, (oChunk (cs c s) arg4 k).view.read (Elt F) f' x = G ((oRect (cs c s) k).emb x)) :
    oDone d (cs c s) arg4 k G ⊢ (oPts d (cs c s) arg4 k f' : sProp 𝕄) := by
  iintro ⟨%f, %hf, H⟩
  have he : ∀ i ∈ (oChunk (cs c s) arg4 k).view.set, f i = f' i := by
    intro i hi
    obtain ⟨x, -, rfl⟩ := Finset.mem_map.mp hi
    have h := (hf x).trans (hf' x).symm
    rw [View.read_apply, View.read_apply] at h
    exact (cast_inj _).mp h
  ihave H' := (Entails.of_eq (pointsTo_congr (q := fullShare) (ℓ := (oChunk (cs c s) arg4 k).view.loc (VT d (cs c s))) he)) $$ H
  iexact H'

end Tile

end Cert.Proof.Sc

end
-- ==== Proof.Sc.Tile.lean ====
/-
  One tile's task against everything the launch hands the tile: its share of the call's arrays, its own buffers and its
  own semaphores. Stated once for any of the two calls' buffers and semaphores, then for each call.
-/
module

public import proofs.«01_k».proof.Proof.Sc.Payload

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx)
open Idealize.ShloMosaic.SparseCore.Cfg (ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

section Generic

variable (d : Dev nD) (c : Fin 2) (s : Fin 16)
  (arg2 : Memref sig .scVector .hbm S25600 .i32) (harg2 : arg2.IsWhole)
  (arg3 : Memref sig .scVector .hbm S500x2x128 .f32) (harg3 : arg3.IsWhole)
  (arg4 : Memref sig .scVector .hbm S25600x2x128 .f32) (harg4 : arg4.IsWhole)
  (arg5 : Memref sig .scVector .vmem S80 .i32) (harg5 : arg5.IsWhole)
  (arg6 : Memref sig .scVector .vmem S80 .i32) (harg6 : arg6.IsWhole)
  (arg7 : Memref sig .scVector .vmem S80x2x128 .f32) (harg7 : arg7.IsWhole)
  (arg8 : Memref sig .scVector .vmem S80x2x128 .f32) (harg8 : arg8.IsWhole)
  (arg9 arg10 arg11 arg12 r0 r1 r2 r3 r4 r5 r6 r7 r8 r9 : DmaSems sig S_)

/-- What of a tile's own buffers and semaphores the task uses. -/
def tileOwn (L : grid0.Coords) : sProp 𝕄 :=
  iprop(((∃ g, arg5.view.loc (VT d L) ↦{fullShare} g) ∗ (∃ g, arg6.view.loc (VT d L) ↦{fullShare} g)
      ∗ (∃ g, arg7.view.loc (VT d L) ↦{fullShare} g) ∗ (∃ g, arg8.view.loc (VT d L) ↦{fullShare} g))
    ∗ (cellAt d L arg9 ∗ cellAt d L arg10 ∗ cellAt d L arg11 ∗ cellAt d L arg12)
    ∗ (cellAt d L r0 ∗ cellAt d L r1 ∗ cellAt d L r2 ∗ cellAt d L r3 ∗ cellAt d L r4 ∗ cellAt d L r5 ∗ cellAt d L r6
      ∗ cellAt d L r7 ∗ cellAt d L r8 ∗ cellAt d L r9))

/-- A list copied from a list of words below 500 reads, wherever it was cut, words below 500. -/
theorem list_ok (L : grid0.Coords) (a5 : Memref sig .scVector .vmem S80 .i32) (fi : Buf (Elt F) (arg2.view.loc (VT d L)))
    (hfi : ∀ j, (arg2.view.read (Elt F) fi j).toNat < 500) :
    ∀ (g : Buf (Elt F) (a5.view.loc (VT d L))) (off : Fin 1 → ℕ) (h : ∀ a, off a + S80.size a ≤ S25600.size a) (x : S80.Idx),
      (a5.view.read (Elt F) (View.write (Elt F) a5.view g (ReadAs.same.apply ((arg2.slice (Rect.unit (s := S25600) off S80.size h) (fun _ => rfl)).view.read (Elt F) fi)) Finset.univ) x).toNat
        < S500x2x128.size gathers_S500x2x128_S80x2x128.axis := by
  intro g off h x
  rw [View.read_write_univ]
  exact hfi ((Rect.unit (s := S25600) off S80.size h).emb x)

variable [FloatOps F]

set_option maxHeartbeats 1000000 in
/-- The task of tile `(c, s)`: from its holding of the three arrays and what it uses of its own, to the same with its
    chunks at the gathered rows. -/
theorem tile_task (fi : Buf (Elt F) (arg2.view.loc (VT d (cs c s)))) (ft : Buf (Elt F) (arg3.view.loc (VT d (cs c s))))
    (fo f' : Buf (Elt F) (arg4.view.loc (VT d (cs c s))))
    (hfi : ∀ j, (arg2.view.read (Elt F) fi j).toNat < 500)
    (hf' : ∀ y, arg4.view.read (Elt F) f' y = gathered (arg3.view.read (Elt F) ft) (arg2.view.read (Elt F) fi) y)
    (O : CellTallies nD τ sig (HIx 2)) (W : Waits sig (HIx 2)) (hO : ∀ g, O g none = 0) :
    iprop(levAts (K (F := F)).L (K (F := F)).lev ∗ tileHas d c s arg2 arg3 arg4 fi ft fo
        ∗ tileOwn d arg5 arg6 arg7 arg8 arg9 arg10 arg11 arg12 r0 r1 r2 r3 r4 r5 r6 r7 r8 r9 (cs c s)
        ∗ owes (VT d (cs c s)) O W)
      ⊢ wp frame (wpE (defs₀ (F := F)) 𝒱₀ (VT d (cs c s)) none) Set.univ
          (cc0_sc_gather (cs c s) arg2 harg2 arg3 harg3 arg4 harg4 arg5 harg5 arg6 harg6 arg7 harg7 arg8 harg8 arg9 arg10 arg11 arg12 r0 r1 r2 r3 r4 r5 r6 r7 r8 r9)
          fun _ => iprop(tileHas d c s arg2 arg3 arg4 fi ft f'
            ∗ tileOwn d arg5 arg6 arg7 arg8 arg9 arg10 arg11 arg12 r0 r1 r2 r3 r4 r5 r6 r7 r8 r9 (cs c s)
            ∗ ∃ W' : Waits sig (HIx 2), ⌜∀ p ∈ W', p ∈ W ∨ p.2 = none⌝ ∗ owes (VT d (cs c s)) O W') := by
  unfold tileHas tileOwn
  rw [bigSep_ten, bigSep_ten]
  iintro ⟨Hlv, ⟨Hi, Ht, Ho⟩, ⟨⟨⟨%g5, H5⟩, ⟨%g6, H6⟩, ⟨%g7, H7⟩, ⟨%g8, H8⟩⟩, Hs, Hr⟩, HO⟩
  have hd (k : Fin 10) : oDone d (cs c s) arg4 k (gathered (arg3.view.read (Elt F) ft) (arg2.view.read (Elt F) fi)) ⊢ (oPts d (cs c s) arg4 k f' : sProp 𝕄) :=
    oDone_at d c s arg4 k _ f' fun x => hf' _
  have hrun := tile_run d (cs c s) arg2 harg2 arg3 harg3 arg4 harg4 arg5 harg5 arg6 harg6 arg7 harg7 arg8 harg8
    arg9 arg10 arg11 arg12 r0 r1 r2 r3 r4 r5 r6 r7 r8 r9 (rq c s) (rq c s) fi ft fo g5 g6 g7 g8
    (list_ok d arg2 (cs c s) arg5 fi hfi) (list_ok d arg2 (cs c s) arg6 fi hfi) O W hO
  iapply (hrun.trans (wp_mono frame _ _ fun _ => ?_)) $$ [Hlv Hi Ht Ho H5 H6 H7 H8 Hs Hr HO]
  · iintro ⟨Hi, Ht, ⟨Ho0, Ho1, Ho2, Ho3, Ho4, Ho5, Ho6, Ho7, Ho8, Ho9⟩, H5, H6, H7, H8, Hs, Hr, HO⟩
    isplitl [Hi Ht Ho0 Ho1 Ho2 Ho3 Ho4 Ho5 Ho6 Ho7 Ho8 Ho9]
    · isplitl [Hi]; · iexact Hi
      isplitl [Ht]; · iexact Ht
      isplitl [Ho0]; · iapply (hd 0); iexact Ho0
      isplitl [Ho1]; · iapply (hd 1); iexact Ho1
      isplitl [Ho2]; · iapply (hd 2); iexact Ho2
      isplitl [Ho3]; · iapply (hd 3); iexact Ho3
      isplitl [Ho4]; · iapply (hd 4); iexact Ho4
      isplitl [Ho5]; · iapply (hd 5); iexact Ho5
      isplitl [Ho6]; · iapply (hd 6); iexact Ho6
      isplitl [Ho7]; · iapply (hd 7); iexact Ho7
      isplitl [Ho8]; · iapply (hd 8); iexact Ho8
      iapply (hd 9); iexact Ho9
    isplitl [H5 H6 H7 H8 Hs Hr]
    · isplitl [H5 H6 H7 H8]
      · isplitl [H5]; · iexact H5
        isplitl [H6]; · iexact H6
        isplitl [H7]; · iexact H7
        iexact H8
      isplitl [Hs]; · iexact Hs
      iexact Hr
    iexact HO
  isplitl [Hlv]; · iexact Hlv
  isplitl [Hi]; · iexact Hi
  isplitl [Ht]; · iexact Ht
  isplitl [Ho]; · iexact Ho
  isplitl [H5]; · iexact H5
  isplitl [H6]; · iexact H6
  isplitl [H7]; · iexact H7
  isplitl [H8]; · iexact H8
  isplitl [Hs]; · iexact Hs
  isplitl [Hr]; · iexact Hr
  iexact HO

end Generic

/-! ## Each call's own buffers and semaphores among a tile's -/

section Own

variable (d : Dev nD) (L : grid0.Coords)

/-- The fourteen DMA cells from number `b` on, of the tile at `L`. -/
abbrev dcell (b : ℕ) (hb : b + 14 ≤ 48) (k : Fin 14) : GSem nD τ sig := (VT d L, .dma (⟨b + k.val, by have := k.isLt; omega⟩ : Fin 48))

/-- A tile's own semaphores at zero: the fourteen from number `b` on and the rest. -/
theorem ownSems_split (b : ℕ) (hb : b + 14 ≤ 48)
    (hs : ∀ k : Fin 14, (SemLoc.dma (⟨b + k.val, by have := k.isLt; omega⟩ : Fin 48) : SemLoc sig).isScoped .scVector = true) :
    (ownSems0 (VT d L) : sProp 𝕄)
      = iprop((bigSep Finset.univ fun k : Fin 14 => semVal (dcell d L b hb k) 0)
          ∗ bigSep (ownCells (VT d L) \ Finset.univ.image (dcell d L b hb)) fun g => semVal g 0) := by
  unfold SparseCore.Cfg.ownSems0
  rw [SparseCore.bigSep_sdiff_split' (t := Finset.univ.image (dcell d L b hb))
      (Finset.image_subset_iff.mpr fun k _ => mem_ownCells.mpr ⟨rfl, hs k⟩),
    SparseCore.bigSep_image_of_injOn (fun x _ y _ h => by
      have h' := congrArg (fun g : GSem nD τ sig => g.2) h
      simp only [SemLoc.dma.injEq, Fin.mk.injEq] at h'
      exact Fin.ext (by omega))]

/-- The first four of a row, in a group of their own. -/
theorem group_four (A B C E R : sProp 𝕄) : iprop(A ∗ B ∗ C ∗ E ∗ R) = iprop((A ∗ B ∗ C ∗ E) ∗ R) := by
  refine Entails.antisymm ?_ ?_
  · show iprop(A ∗ B ∗ C ∗ E ∗ R) ⊢ iprop((A ∗ B ∗ C ∗ E) ∗ R)
    iintro ⟨H0, H1, H2, H3, H⟩
    isplitr [H]
    · isplitl [H0]; · iexact H0
      isplitl [H1]; · iexact H1
      isplitl [H2]; · iexact H2
      iexact H3
    iexact H
  · show iprop((A ∗ B ∗ C ∗ E) ∗ R) ⊢ iprop(A ∗ B ∗ C ∗ E ∗ R)
    iintro ⟨⟨H0, H1, H2, H3⟩, H⟩
    isplitl [H0]; · iexact H0
    isplitl [H1]; · iexact H1
    isplitl [H2]; · iexact H2
    isplitl [H3]; · iexact H3
    iexact H

/-- Fourteen in a row, in two groups. -/
theorem bigSep_fourteen (Φ : Fin 14 → sProp 𝕄) :
    bigSep Finset.univ Φ = iprop((Φ 0 ∗ Φ 1 ∗ Φ 2 ∗ Φ 3) ∗ (Φ 4 ∗ Φ 5 ∗ Φ 6 ∗ Φ 7 ∗ Φ 8 ∗ Φ 9 ∗ Φ 10 ∗ Φ 11 ∗ Φ 12 ∗ Φ 13)) := by
  rw [bigSep_univ_eq_bigSepL [0, 1, 2, 3, 4, 5, 6, 7, 8, 9, 10, 11, 12, 13] (by decide) (by decide)]
  exact group_four _ _ _ _ _

/-- A tile's own buffers: four different ones of them, at some contents, and the rest. -/
theorem ownBufs_split (b5 b6 b7 b8 : Ref sig .scVector)
    (h5 : (Proc.scVector (τ := τ) (cV L) (jV L)).devRef b5 ∈ ownRefs (τ := τ) (.scVector (cV L) (jV L))) (h6 : (Proc.scVector (τ := τ) (cV L) (jV L)).devRef b6 ∈ ownRefs (τ := τ) (.scVector (cV L) (jV L)))
    (h7 : (Proc.scVector (τ := τ) (cV L) (jV L)).devRef b7 ∈ ownRefs (τ := τ) (.scVector (cV L) (jV L))) (h8 : (Proc.scVector (τ := τ) (cV L) (jV L)).devRef b8 ∈ ownRefs (τ := τ) (.scVector (cV L) (jV L)))
    (e65 : b6 ≠ b5) (e75 : b7 ≠ b5) (e76 : b7 ≠ b6) (e85 : b8 ≠ b5) (e86 : b8 ≠ b6) (e87 : b8 ≠ b7) :
    ∃ R : sProp 𝕄, (ownBufs (VT d L) : sProp 𝕄)
      = iprop(((∃ f, (VT d L).loc b5 ↦{fullShare} f) ∗ (∃ f, (VT d L).loc b6 ↦{fullShare} f)
          ∗ (∃ f, (VT d L).loc b7 ↦{fullShare} f) ∗ (∃ f, (VT d L).loc b8 ↦{fullShare} f)) ∗ R) := by
  have hne {x y : Ref sig .scVector} (h : x ≠ y) : (Proc.scVector (τ := τ) (cV L) (jV L)).devRef x ≠ (Proc.scVector (τ := τ) (cV L) (jV L)).devRef y :=
    fun e => h (Proc.devRef_injective _ e)
  refine ⟨bigSep (((((ownRefs (τ := τ) (sig := sig) (.scVector (cV L) (jV L))).erase ((Proc.scVector (τ := τ) (cV L) (jV L)).devRef b5)).erase ((Proc.scVector (τ := τ) (cV L) (jV L)).devRef b6)).erase ((Proc.scVector (τ := τ) (cV L) (jV L)).devRef b7)).erase
    ((Proc.scVector (τ := τ) (cV L) (jV L)).devRef b8)) fun b => iprop(∃ f, ((d, b) : Loc nD τ sig) ↦{fullShare} f), ?_⟩
  unfold SparseCore.Cfg.ownBufs
  refine (SparseCore.bigSep_erase' h5).trans ?_
  rw [SparseCore.bigSep_erase' (Finset.mem_erase.mpr ⟨hne e65, h6⟩),
    SparseCore.bigSep_erase' (Finset.mem_erase.mpr ⟨hne e76, Finset.mem_erase.mpr ⟨hne e75, h7⟩⟩),
    SparseCore.bigSep_erase' (Finset.mem_erase.mpr ⟨hne e87, Finset.mem_erase.mpr ⟨hne e86, Finset.mem_erase.mpr ⟨hne e85, h8⟩⟩⟩)]
  exact group_four _ _ _ _ _

/-- Two splits side by side. -/
theorem sep_splits {A B X Y R R' : sProp 𝕄} (hA : A = iprop(X ∗ R)) (hB : B = iprop(Y ∗ R')) : iprop(A ∗ B) = iprop((X ∗ Y) ∗ R ∗ R') := by
  subst hA hB
  refine Entails.antisymm ?_ ?_
  · show iprop((X ∗ R) ∗ Y ∗ R') ⊢ iprop((X ∗ Y) ∗ R ∗ R')
    iintro ⟨⟨H1, H2⟩, H3, H4⟩
    isplitl [H1 H3]
    · isplitl [H1] <;> iassumption
    isplitl [H2] <;> iassumption
  · show iprop((X ∗ Y) ∗ R ∗ R') ⊢ iprop((X ∗ R) ∗ Y ∗ R')
    iintro ⟨⟨H1, H2⟩, H3, H4⟩
    isplitl [H1 H3]
    · isplitl [H1] <;> iassumption
    isplitl [H2] <;> iassumption

/-- What the first call's task uses is among what the launch hands the tile. -/
theorem own0 : ∃ R : sProp 𝕄, iprop(scopedBufs (VT d L) ∗ scopedSems0 (VT d L))
    = iprop(tileOwn d (Memref.whole cc0_scratch0) (Memref.whole cc0_scratch1) (Memref.whole cc0_scratch2) (Memref.whole cc0_scratch3)
        cc0_scratch4 cc0_scratch5 cc0_scratch6 cc0_scratch7 cc0_scoped0 cc0_scoped1 cc0_scoped2 cc0_scoped3 cc0_scoped4 cc0_scoped5 cc0_scoped6
        cc0_scoped7 cc0_scoped8 cc0_scoped9 L ∗ R) := by
  obtain ⟨R, hR⟩ := ownBufs_split (F := F) d L cc0_scratch0 cc0_scratch1 cc0_scratch2 cc0_scratch3
    (SparseCore.Cfg.mem_ownRefs_of_owner rfl) (SparseCore.Cfg.mem_ownRefs_of_owner rfl) (SparseCore.Cfg.mem_ownRefs_of_owner rfl)
    (SparseCore.Cfg.mem_ownRefs_of_owner rfl) (by decide) (by decide) (by decide) (by decide) (by decide) (by decide)
  have h := sep_splits hR (ownSems_split (F := F) d L 0 (by decide) (by decide))
  rw [bigSep_fourteen] at h
  refine ⟨_, Eq.trans ?_ h⟩
  rw [(K (F := F)).scopedBufs_V facts d (cV L) (jV L), SparseCore.Cfg.scopedSems0_V (Val := Elt F) d (cV L) (jV L)]

/-- What the second call's task uses is among what the launch hands the tile. -/
theorem own1 : ∃ R : sProp 𝕄, iprop(scopedBufs (VT d L) ∗ scopedSems0 (VT d L))
    = iprop(tileOwn d (Memref.whole cc1_scratch0) (Memref.whole cc1_scratch1) (Memref.whole cc1_scratch2) (Memref.whole cc1_scratch3)
        cc1_scratch4 cc1_scratch5 cc1_scratch6 cc1_scratch7 cc1_scoped0 cc1_scoped1 cc1_scoped2 cc1_scoped3 cc1_scoped4 cc1_scoped5 cc1_scoped6
        cc1_scoped7 cc1_scoped8 cc1_scoped9 L ∗ R) := by
  obtain ⟨R, hR⟩ := ownBufs_split (F := F) d L cc1_scratch0 cc1_scratch1 cc1_scratch2 cc1_scratch3
    (SparseCore.Cfg.mem_ownRefs_of_owner rfl) (SparseCore.Cfg.mem_ownRefs_of_owner rfl) (SparseCore.Cfg.mem_ownRefs_of_owner rfl)
    (SparseCore.Cfg.mem_ownRefs_of_owner rfl) (by decide) (by decide) (by decide) (by decide) (by decide) (by decide)
  have h := sep_splits hR (ownSems_split (F := F) d L 14 (by decide) (by decide))
  rw [bigSep_fourteen] at h
  refine ⟨_, Eq.trans ?_ h⟩
  rw [(K (F := F)).scopedBufs_V facts d (cV L) (jV L), SparseCore.Cfg.scopedSems0_V (Val := Elt F) d (cV L) (jV L)]

end Own

end Cert.Proof.Sc

end
-- ==== Proof.Sc.Calls.lean ====
/-
  The two gather calls as the launch sees them: what their handshakes carry, the tiles' obligations, and that a call's
  three arrays whole are what its two SparseCores are handed and hand back.
-/
module

public import proofs.«01_k».proof.Proof.Sc.Tile

@[expose] public section

noncomputable section

namespace Cert.Proof.Sc

open Cert.KernelIdeal Cert.KernelIdeal.Gen
open Idealize.ShloMosaic Idealize.ShloMosaic.TcCoe
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- The contents the two calls find, by device: each call's index list, the table, each call's result before it. -/
structure Args (F : FTy → Type) where
  i0 : Dev nD → S25600.Idx → BitVec 32
  i1 : Dev nD → S25600.Idx → BitVec 32
  tb : Dev nD → S500x2x128.Idx → Elt F .f32
  o0 : Dev nD → S25600x2x128.Idx → Elt F .f32
  o1 : Dev nD → S25600x2x128.Idx → Elt F .f32

/-- Every word of both lists names a row of the table. -/
def Args.Ok (A : Args F) : Prop := (∀ d j, (A.i0 d j).toNat < 500) ∧ ∀ d j, (A.i1 d j).toNat < 500

/-- The first call's tile `(c, s)`, its chunks of the result at `fo`. -/
def has0 (A : Args F) (d : Dev nD) (c : Fin 2) (s : Fin 16) (fo : S25600x2x128.Idx → Elt F .f32) : sProp 𝕄 :=
  tileHas (F := F) d c s (Memref.whole main_v5_scv) (Memref.whole main_v4_scv) (Memref.whole main_v6_scv) (A.i0 d) (A.tb d) fo
/-- The second call's tile `(c, s)`, its chunks of the result at `fo`. -/
def has1 (A : Args F) (d : Dev nD) (c : Fin 2) (s : Fin 16) (fo : S25600x2x128.Idx → Elt F .f32) : sProp 𝕄 :=
  tileHas (F := F) d c s (Memref.whole main_v8_scv) (Memref.whole main_v4_scv) (Memref.whole main_v9_scv) (A.i1 d) (A.tb d) fo

/-- What a subcore of the first call holds can be handed between threads, -/
instance has0_storable (A : Args F) (d : Dev nD) (c : Fin 2) (s : Fin 16) (fo : S25600x2x128.Idx → Elt F .f32) :
    BI.Storable (upEmb : UEmb _ 𝕄) (has0 A d c s fo) := by unfold has0; infer_instance
/-- and of the second; -/
instance has1_storable (A : Args F) (d : Dev nD) (c : Fin 2) (s : Fin 16) (fo : S25600x2x128.Idx → Elt F .f32) :
    BI.Storable (upEmb : UEmb _ 𝕄) (has1 A d c s fo) := by unfold has1; infer_instance

/-- All sixteen tiles of SparseCore `c`, in the first call. -/
def core0 (A : Args F) (d : Dev nD) (c : Fin 2) (fo : S25600x2x128.Idx → Elt F .f32) : sProp 𝕄 :=
  bigSep Finset.univ fun s : Fin 16 => has0 A d c s fo
/-- All sixteen tiles of SparseCore `c`, in the second call. -/
def core1 (A : Args F) (d : Dev nD) (c : Fin 2) (fo : S25600x2x128.Idx → Elt F .f32) : sProp 𝕄 :=
  bigSep Finset.univ fun s : Fin 16 => has1 A d c s fo

/-- what a core of the first call holds, -/
instance core0_storable (A : Args F) (d : Dev nD) (c : Fin 2) (fo : S25600x2x128.Idx → Elt F .f32) :
    BI.Storable (upEmb : UEmb _ 𝕄) (core0 A d c fo) := by unfold core0; infer_instance
/-- and of the second. -/
instance core1_storable (A : Args F) (d : Dev nD) (c : Fin 2) (fo : S25600x2x128.Idx → Elt F .f32) :
    BI.Storable (upEmb : UEmb _ 𝕄) (core1 A d c fo) := by unfold core1; infer_instance

/-- Both calls run on two SparseCores, -/
theorem nCore_eq : (q : Fin 2) → (K (F := F)).nCore q = 2
  | ⟨0, _⟩ => rfl
  | ⟨1, _⟩ => rfl
/-- on sixteen tiles of each. -/
theorem nSub_eq : (q : Fin 2) → (K (F := F)).nSub q = 16
  | ⟨0, _⟩ => rfl
  | ⟨1, _⟩ => rfl

/-- A tile's holding in call `q`, -/
def hasAt (A : Args F) : Fin 2 → Dev nD → Fin 2 → Fin 16 → (S25600x2x128.Idx → Elt F .f32) → sProp 𝕄
  | ⟨0, _⟩ => has0 A
  | ⟨1, _⟩ => has1 A
/-- a SparseCore's, -/
def coreAt (A : Args F) : Fin 2 → Dev nD → Fin 2 → (S25600x2x128.Idx → Elt F .f32) → sProp 𝕄
  | ⟨0, _⟩ => core0 A
  | ⟨1, _⟩ => core1 A
/-- what the call's result holds before it, -/
def oldAt (A : Args F) : Fin 2 → Dev nD → S25600x2x128.Idx → Elt F .f32
  | ⟨0, _⟩ => A.o0
  | ⟨1, _⟩ => A.o1
/-- and after it: the gathered rows. -/
def newAt (A : Args F) : Fin 2 → Dev nD → S25600x2x128.Idx → Elt F .f32
  | ⟨0, _⟩ => fun d => gathered (A.tb d) (A.i0 d)
  | ⟨1, _⟩ => fun d => gathered (A.tb d) (A.i1 d)

/-- So can what a subcore of either call holds, -/
instance hasAt_storable (A : Args F) (q : Fin 2) (d : Dev nD) (c : Fin 2) (s : Fin 16) (fo : S25600x2x128.Idx → Elt F .f32) :
    BI.Storable (upEmb : UEmb _ 𝕄) (hasAt A q d c s fo) := by
  match q with
  | ⟨0, _⟩ => exact has0_storable A d c s fo
  | ⟨1, _⟩ => exact has1_storable A d c s fo
/-- and a core. -/
instance coreAt_storable (A : Args F) (q : Fin 2) (d : Dev nD) (c : Fin 2) (fo : S25600x2x128.Idx → Elt F .f32) :
    BI.Storable (upEmb : UEmb _ 𝕄) (coreAt A q d c fo) := by
  match q with
  | ⟨0, _⟩ => exact core0_storable A d c fo
  | ⟨1, _⟩ => exact core1_storable A d c fo

/-- A core's holdings are those of its call, spelt out. -/
theorem coreAt_eq (A : Args F) (q : Fin 2) (d : Dev nD) (c : Fin 2) (fo : S25600x2x128.Idx → Elt F .f32) :
    coreAt A q d c fo = bigSep Finset.univ fun s : Fin 16 => hasAt A q d c s fo := by
  match q with
  | ⟨0, _⟩ => rfl
  | ⟨1, _⟩ => rfl

/-- What the handshakes carry: to a SparseCore its sixteen tiles' holdings, to a tile its own; back the same, the
    result's chunks at the gathered rows. -/
def P (A : Args F) : (K (F := F)).Pay (nD := nD) (Val := Elt F) (Name := ℕ) (U := UU) where
  st := fun q d c => coreAt A q d (Fin.cast (nCore_eq q) c) (oldAt A q d)
  dn := fun q d c => coreAt A q d (Fin.cast (nCore_eq q) c) (newAt A q d)
  go := fun q d c i => hasAt A q d (Fin.cast (nCore_eq q) c) (Fin.cast (nSub_eq q) i) (oldAt A q d)
  td := fun q d c i => hasAt A q d (Fin.cast (nCore_eq q) c) (Fin.cast (nSub_eq q) i) (newAt A q d)
  x := fun _ _ => iprop(emp)

/-- Everything that the protocol hands over can be handed over. -/
instance P_storable (A : Args F) : (P A).IsStorable where
  st q d c := coreAt_storable A q d _ _
  dn q d c := coreAt_storable A q d _ _
  go q d c i := hasAt_storable A q d _ _ _
  td q d c i := hasAt_storable A q d _ _ _

/-! ## A call's arrays whole, and its SparseCores' parts -/

/-- The words of a chunk of the first call's result are its chunk set, -/
theorem chunkSet0_eq (t : Fin 2 × Fin 16 × Fin 10) : (oChunk (cs t.1 t.2.1) (Memref.whole main_v6_scv) t.2.2).view.set = chunkSet t :=
  View.set_slice_whole main_v6_scv (oRect (cs t.1 t.2.1) t.2.2)
/-- and of the second's. -/
theorem chunkSet1_eq (t : Fin 2 × Fin 16 × Fin 10) : (oChunk (cs t.1 t.2.1) (Memref.whole main_v9_scv) t.2.2).view.set = chunkSet t :=
  View.set_slice_whole main_v9_scv (oRect (cs t.1 t.2.1) t.2.2)

/-- The first call's three arrays whole are its tiles' holdings. -/
theorem whole0 (A : Args F) (d : Dev nD) (fo : S25600x2x128.Idx → Elt F .f32) :
    (iprop(((SparseCore.T d).loc main_v5 ↦{fullShare} (A.i0 d : Buf (Elt F) ((SparseCore.T d).loc main_v5))) ∗ ((SparseCore.T d).loc main_v4 ↦{fullShare} (A.tb d : Buf (Elt F) ((SparseCore.T d).loc main_v4)))
        ∗ (SparseCore.T d).loc main_v6 ↦{fullShare} (fo : Buf (Elt F) ((SparseCore.T d).loc main_v6))) : sProp 𝕄)
      = bigSep Finset.univ fun c : Fin 2 => core0 A d c fo := by
  rw [shares_eq ((SparseCore.T d).loc main_v5), shares_eq ((SparseCore.T d).loc main_v4),
    chunks_eq ((SparseCore.T d).loc main_v6) (fun t => (oChunk (cs t.1 t.2.1) (Memref.whole main_v6_scv) t.2.2).view.set)
      (fun t t' h => by rw [chunkSet0_eq, chunkSet0_eq]; exact chunks_disjoint t t' h)
      (((Finset.biUnion_congr rfl fun t _ => chunkSet0_eq t).trans chunks_cover)) fo,
    ← bigSep_sep', ← bigSep_sep']
  refine bigSep_congr fun c _ => ?_
  unfold core0
  rw [← bigSep_sep', ← bigSep_sep']
  refine bigSep_congr fun s _ => ?_
  unfold has0 tileHas
  rfl

/-- The second call's three arrays whole are its tiles' holdings. -/
theorem whole1 (A : Args F) (d : Dev nD) (fo : S25600x2x128.Idx → Elt F .f32) :
    (iprop(((SparseCore.T d).loc main_v8 ↦{fullShare} (A.i1 d : Buf (Elt F) ((SparseCore.T d).loc main_v8))) ∗ ((SparseCore.T d).loc main_v4 ↦{fullShare} (A.tb d : Buf (Elt F) ((SparseCore.T d).loc main_v4)))
        ∗ (SparseCore.T d).loc main_v9 ↦{fullShare} (fo : Buf (Elt F) ((SparseCore.T d).loc main_v9))) : sProp 𝕄)
      = bigSep Finset.univ fun c : Fin 2 => core1 A d c fo := by
  rw [shares_eq ((SparseCore.T d).loc main_v8), shares_eq ((SparseCore.T d).loc main_v4),
    chunks_eq ((SparseCore.T d).loc main_v9) (fun t => (oChunk (cs t.1 t.2.1) (Memref.whole main_v9_scv) t.2.2).view.set)
      (fun t t' h => by rw [chunkSet1_eq, chunkSet1_eq]; exact chunks_disjoint t t' h)
      (((Finset.biUnion_congr rfl fun t _ => chunkSet1_eq t).trans chunks_cover)) fo,
    ← bigSep_sep', ← bigSep_sep']
  refine bigSep_congr fun c _ => ?_
  unfold core1
  rw [← bigSep_sep', ← bigSep_sep']
  refine bigSep_congr fun s _ => ?_
  unfold has1 tileHas
  rfl

/-- The SparseCores counted as the call counts them. -/
theorem cores_eq (A : Args F) (q : Fin 2) (d : Dev nD) (fo : S25600x2x128.Idx → Elt F .f32) :
    (bigSep Finset.univ fun c : Fin ((K (F := F)).nCore q) => coreAt A q d (Fin.cast (nCore_eq q) c) fo) = bigSep Finset.univ fun c : Fin 2 => coreAt A q d c fo :=
  (bigSep_univ_equiv (finCongr (nCore_eq (F := F) q)) fun c : Fin 2 => coreAt A q d c fo).symm

/-! ## The tiles' obligations -/

/-- The tiles counted as the call counts them. -/
theorem tiles_eq (A : Args F) (q : Fin 2) (d : Dev nD) (c : Fin 2) (fo : S25600x2x128.Idx → Elt F .f32) :
    (bigSep Finset.univ fun i : Fin ((K (F := F)).nSub q) => hasAt A q d c (Fin.cast (nSub_eq q) i) fo) = coreAt A q d c fo :=
  (coreAt_eq A q d c fo).symm ▸ (bigSep_univ_equiv (finCongr (nSub_eq (F := F) q)) fun s : Fin 16 => hasAt A q d c s fo).symm

/-- What is handed over as it is, and taken back as it comes. -/
theorem handed_back (X Y : sProp 𝕄) : X ⊢ |={Set.univ}=> iprop(X ∗ (Y -∗ Y)) := by
  iintro H; imodintro
  isplitl [H]; · iexact H
  iintro H; iexact H

/-- What a SparseCore is handed is its tiles' holdings, and what they bring back is what it hands back. -/
theorem vecSplit (A : Args F) (q : Fin 2) : (K (F := F)).VecSplit' (P A) q := by
  intro d c
  show coreAt A q d (Fin.cast (nCore_eq q) c) (oldAt A q d) ⊢ |={Set.univ}=> iprop(
      (bigSep Finset.univ fun i : Fin ((K (F := F)).nSub q) => hasAt A q d (Fin.cast (nCore_eq q) c) (Fin.cast (nSub_eq q) i) (oldAt A q d))
      ∗ ((bigSep Finset.univ fun i : Fin ((K (F := F)).nSub q) => hasAt A q d (Fin.cast (nCore_eq q) c) (Fin.cast (nSub_eq q) i) (newAt A q d))
        -∗ coreAt A q d (Fin.cast (nCore_eq q) c) (newAt A q d)))
  rw [tiles_eq, tiles_eq]
  exact handed_back _ _

variable [FloatOps F]

/-- A task's run from exactly what it uses, inside what the launch hands the tile. -/
theorem task_post {thr : Thread nD τ} {A : sProp 𝕄} {B C X R Y : sProp 𝕄} {O : CellTallies nD τ sig (HIx 2)} {W : Waits sig (HIx 2)} {q : Fin 2}
    {p : Prog (TpuEff nD τ sig (Elt F) Λ₀ thr.2) PUnit} {L : sProp 𝕄} (hBC : iprop(B ∗ C) = iprop(X ∗ R))
    (h : iprop(L ∗ A ∗ X ∗ owes thr O W) ⊢ wp frame (wpE (defs₀ (F := F)) 𝒱₀ thr none) Set.univ p
      fun _ => iprop(Y ∗ X ∗ ∃ W' : Waits sig (HIx 2), ⌜∀ p ∈ W', p ∈ W ∨ p.2 = none⌝ ∗ owes thr O W')) :
    iprop(L ∗ emp ∗ A ∗ B ∗ C ∗ owes thr O W) ⊢ wp frame (wpE (defs₀ (F := F)) 𝒱₀ thr none) Set.univ p
      fun _ => iprop(Y ∗ B ∗ C ∗ ∃ W' : Waits sig (HIx 2), ⌜∀ p ∈ W', p ∈ W ∨ p.2 = none ∨ p.2 = some q⌝ ∗ owes thr O W') := by
  iintro ⟨HL, -, HA, HB, HC, HO⟩
  ihave HX := (Entails.of_eq hBC) $$ [HB HC]
  · isplitl [HB] <;> iassumption
  icases HX with ⟨HX, HR⟩
  iapply (wp_wand_r _ _ _ (Q := fun _ => iprop(Y ∗ X ∗ ∃ W' : Waits sig (HIx 2), ⌜∀ p ∈ W', p ∈ W ∨ p.2 = none⌝ ∗ owes thr O W')))
  isplitr [HR]
  · iapply h
    isplitl [HL]; · iexact HL
    isplitl [HA]; · iexact HA
    isplitl [HX] <;> iassumption
  iintro %_ ⟨HY, HX, %W', %hW', HO⟩
  isplitl [HY]; · iexact HY
  ihave HBC := (Entails.of_eq hBC.symm) $$ [HX HR]
  · isplitl [HX] <;> iassumption
  icases HBC with ⟨HB, HC⟩
  isplitl [HB]; · iexact HB
  isplitl [HC]; · iexact HC
  iexists W'; isplitr
  · ipureintro; exact fun p hp => (hW' p hp).imp_right Or.inl
  iexact HO

set_option maxRecDepth 16384 in
/-- Every tile of the first call keeps its part of the bargain. -/
theorem tileObl0 (A : Args F) (hA : A.Ok) : (K (F := F)).TileObl (D (F := F)) 𝒱 (P A) v₀ 0 := by
  intro d c i O W hO _ _
  simp only [show (P A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  obtain ⟨R, hR⟩ := own0 (F := F) d (cs (Fin.cast (nCore_eq 0) c) (Fin.cast (nSub_eq 0) i))
  exact task_post hR (tile_task d (Fin.cast (nCore_eq 0) c) (Fin.cast (nSub_eq 0) i) (Memref.whole main_v5_scv) (Memref.isWhole_whole _)
    (Memref.whole main_v4_scv) (Memref.isWhole_whole _) (Memref.whole main_v6_scv) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 cc0_scoped0 cc0_scoped1 cc0_scoped2 cc0_scoped3 cc0_scoped4 cc0_scoped5 cc0_scoped6
    cc0_scoped7 cc0_scoped8 cc0_scoped9 (A.i0 d) (A.tb d) (A.o0 d) (gathered (A.tb d) (A.i0 d)) (hA.1 d) (fun _ => rfl) O W hO)

set_option maxRecDepth 16384 in
/-- Every tile of the second call keeps its part of the bargain. -/
theorem tileObl1 (A : Args F) (hA : A.Ok) : (K (F := F)).TileObl (D (F := F)) 𝒱 (P A) v₀ 1 := by
  intro d c i O W hO _ _
  simp only [show (P A).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  simp only [defs₀, SparseCore.onTile, hci, and_self, ↓reduceDIte]
  obtain ⟨R, hR⟩ := own1 (F := F) d (cs (Fin.cast (nCore_eq 1) c) (Fin.cast (nSub_eq 1) i))
  exact task_post hR (tile_task d (Fin.cast (nCore_eq 1) c) (Fin.cast (nSub_eq 1) i) (Memref.whole main_v8_scv) (Memref.isWhole_whole _)
    (Memref.whole main_v4_scv) (Memref.isWhole_whole _) (Memref.whole main_v9_scv) (Memref.isWhole_whole _)
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    cc1_scratch4 cc1_scratch5 cc1_scratch6 cc1_scratch7 cc1_scoped0 cc1_scoped1 cc1_scoped2 cc1_scoped3 cc1_scoped4 cc1_scoped5 cc1_scoped6
    cc1_scoped7 cc1_scoped8 cc1_scoped9 (A.i1 d) (A.tb d) (A.o1 d) (gathered (A.tb d) (A.i1 d)) (hA.2 d) (fun _ => rfl) O W hO)

end Cert.Proof.Sc

end
-- ==== Proof.Sc.Mlp.lean ====
/-
  The TensorCore part of the program: the body of the two MLP calls, run once for both, and the proof data of the two
  pipelines over any contents of the arrays.
-/
module

public import proofs.«01_k».proof.Proof.Sc.Common

@[expose] public section

-- the block is 50 x 16 x 2048: deciding that the one store covers it walks its axes
set_option maxRecDepth 16384

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 2) (Elt F) ℕ UU ℕ

/-! ## The body -/

/-- The rectangles the body loads and stores: each a whole block. -/
abbrev rX : Rect S800x256 := Rect.unit (s := S800x256) ![0, 0] S800x256.size inb_S800x256_S800x256_0_0
/-- The whole of the first weights, -/
abbrev rW1 : Rect S256x1024 := Rect.unit (s := S256x1024) ![0, 0] S256x1024.size inb_S256x1024_S256x1024_0_0
/-- of the first bias, -/
abbrev rB1 : Rect S1x1024 := Rect.unit (s := S1x1024) ![0, 0] S1x1024.size inb_S1x1024_S1x1024_0_0
/-- of the second weights, -/
abbrev rW2 : Rect S1024x2048 := Rect.unit (s := S1024x2048) ![0, 0] S1024x2048.size inb_S1024x2048_S1024x2048_0_0
/-- of a row of 2048 columns, -/
abbrev rB2 : Rect S1x2048 := Rect.unit (s := S1x2048) ![0, 0] S1x2048.size inb_S1x2048_S1x2048_0_0
/-- and of a block of the result. -/
abbrev rOut : Rect S50x16x2048 := Rect.unit (s := S50x16x2048) ![0, 0, 0] S50x16x2048.size inb_S50x16x2048_S50x16x2048_0_0_0

/-- What the body leaves in the result's block, from the blocks it loads. -/
def mlpOut (x0 : Vec F S800x256 .f32) (x1 : Vec F S256x1024 .f32) (x2 : Vec F S1x1024 .f32) (x3 : Vec F S1024x2048 .f32)
    (x4 : Vec F S1x2048 .f32) (x5 : Vec F S1x2048 .f32) (x6 : Vec F S1x2048 .f32) : Vec F S50x16x2048 .f32 :=
  View.canon [⟨rOut, k2_pay1 (k2_pay2 (View.ld x0 rX) (View.ld x1 rW1) (View.ld x2 rB1) (View.ld x3 rW2) (View.ld x4 rB2))
    (View.ld x5 rB2) (View.ld x6 rB2)⟩]

/-- The one store covers the block. -/
theorem mlp_cover (p : Vec F S50x16x2048 .f32) (y : S50x16x2048.Idx) :
    ∃ pc ∈ ([⟨rOut, p⟩] : List (View.Piece (Elt F) S50x16x2048 .f32)), y ∈ pc.1.set :=
  View.cover_of_tiled [⟨rOut, p⟩] S50x16x2048.size (by rfl) y

section
variable (c : Dev nD) (i : grid2.Coords)
  (a1 : Memref sig .tc .vmem S800x256 .f32) (h1 : a1.IsWhole) (a2 : Memref sig .tc .vmem S256x1024 .f32) (h2 : a2.IsWhole)
  (a3 : Memref sig .tc .vmem S1x1024 .f32) (h3 : a3.IsWhole) (a4 : Memref sig .tc .vmem S1024x2048 .f32) (h4 : a4.IsWhole)
  (a5 : Memref sig .tc .vmem S1x2048 .f32) (h5 : a5.IsWhole) (a6 : Memref sig .tc .vmem S1x2048 .f32) (h6 : a6.IsWhole)
  (a7 : Memref sig .tc .vmem S1x2048 .f32) (h7 : a7.IsWhole) (a8 : Memref sig .tc .vmem S50x16x2048 .f32) (h8 : a8.IsWhole)
  (x0 : Vec F S800x256 .f32) (x1 : Vec F S256x1024 .f32) (x2 : Vec F S1x1024 .f32) (x3 : Vec F S1024x2048 .f32)
  (x4 : Vec F S1x2048 .f32) (x5 : Vec F S1x2048 .f32) (x6 : Vec F S1x2048 .f32)

/-- The seven blocks the body reads, held at their contents. -/
def mlpIns : sProp 𝕄 :=
  iprop(owns (c : Thread nD τ) a1 fullShare x0 ∗ owns (c : Thread nD τ) a2 fullShare x1 ∗ owns (c : Thread nD τ) a3 fullShare x2
    ∗ owns (c : Thread nD τ) a4 fullShare x3 ∗ owns (c : Thread nD τ) a5 fullShare x4 ∗ owns (c : Thread nD τ) a6 fullShare x5
    ∗ owns (c : Thread nD τ) a7 fullShare x6)

set_option maxHeartbeats 1000000 in
/-- The body reads its seven blocks, leaves them as they were, and the result's block at `mlpOut` of them. -/
theorem mlp_run (Q : PUnit → sProp 𝕄) :
    iprop(mlpIns c a1 a2 a3 a4 a5 a6 a7 x0 x1 x2 x3 x4 x5 x6 ∗ (∃ d, owns (c : Thread nD τ) a8 fullShare d)
        ∗ (iprop(mlpIns c a1 a2 a3 a4 a5 a6 a7 x0 x1 x2 x3 x4 x5 x6
            ∗ owns (c : Thread nD τ) a8 fullShare (mlpOut x0 x1 x2 x3 x4 x5 x6)) -∗ Q ⟨⟩))
      ⊢ wp frame (wpE (defs₀ (F := F)) 𝒱₀ c none) Set.univ
          (cc2__mlp_ln i a1 h1 a2 h2 a3 h3 a4 h4 a5 h5 a6 h6 a7 h7 a8 h8) Q := by
  simp only [cc2__mlp_ln_eq_skeleton]; unfold cc2__mlp_ln_skel
  simp only [k2_part1_eq_skeleton]
  unfold mlpIns owns
  iintro ⟨⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩⟩, ⟨%d7, %f7, -, H7⟩, HQ⟩
  subst e0 e1 e2 e3 e4 e5 e6
  sl_exec
  sl_step
  iapply HQ
  isplitl [H0 H1 H2 H3 H4 H5 H6]
  · isplitl [H0]; · iexists f0; isplitr; (· ipureintro; rfl); iexact H0
    isplitl [H1]; · iexists f1; isplitr; (· ipureintro; rfl); iexact H1
    isplitl [H2]; · iexists f2; isplitr; (· ipureintro; rfl); iexact H2
    isplitl [H3]; · iexists f3; isplitr; (· ipureintro; rfl); iexact H3
    isplitl [H4]; · iexists f4; isplitr; (· ipureintro; rfl); iexact H4
    isplitl [H5]; · iexists f5; isplitr; (· ipureintro; rfl); iexact H5
    iexists f6; isplitr; (· ipureintro; rfl); iexact H6
  iexists _; isplitr
  swap; · iexact H7
  ipureintro
  exact View.read_writes_eq_canon _ _ _ (mlp_cover _)

end

/-! ## The pipelines' proof data -/

variable (Vv : (c : Dev nD) → (b : Ref sig .tc) → Buf (Elt F) ((c : Thread nD τ).loc b))

/-- The waits a TensorCore may have recorded after both gather calls. -/
def recd (c : Dev nD) : Set (SemLoc sig × HIx 2) := {p | (K (F := F)).lev (T c, p.1) p.2 ≤ 16}

/-- Window `w`'s block at point `t` of call 2, read off its array's contents. -/
def blk2 (c : Dev nD) (w : Fin cfg2.W) (t : Fin cfg2.N) : ((cfg2.win w).xblock (cfg2.grid.coords t)).Idx → Elt F (cfg2.win w).elt :=
  ((cfg2.win w).blk t).view.read (Elt F) (Vv c (Pipeline.arrRef spec2 w))

/-- The result's block at point `t` of call 2. -/
def out2 (c : Dev nD) (t : Fin cfg2.N) : Vec F S50x16x2048 .f32 :=
  mlpOut (blk2 Vv c 0 t) (blk2 Vv c 1 t) (blk2 Vv c 2 t) (blk2 Vv c 3 t) (blk2 Vv c 4 t) (blk2 Vv c 5 t) (blk2 Vv c 6 t)

/-- Call 2's proof data: the arrays at `Vv`; the inputs' blocks stay, the result's becomes `out2`. -/
def dat2 (c : Dev nD) : Dat τ (Elt F) (HIx 2) ℕ UU ℕ cfg2 c where
  A w := Vv c (Pipeline.arrRef spec2 w)
  after w t := match w with
    | ⟨0, _⟩ => blk2 Vv c 0 t
    | ⟨1, _⟩ => blk2 Vv c 1 t
    | ⟨2, _⟩ => blk2 Vv c 2 t
    | ⟨3, _⟩ => blk2 Vv c 3 t
    | ⟨4, _⟩ => blk2 Vv c 4 t
    | ⟨5, _⟩ => blk2 Vv c 5 t
    | ⟨6, _⟩ => blk2 Vv c 6 t
    | ⟨7, _⟩ => out2 Vv c t
  Φ _ := Pipeline.scopedRest spec2 c
  q _ := fullShare
  owed _ := 0
  recorded _ := recd (F := F) c

/-- The first call's data, field by field. -/
theorem dat2_A (c : Dev nD) (w : Fin cfg2.W) : (dat2 Vv c).A w = Vv c (Pipeline.arrRef spec2 w) := by dsimp only [dat2]
theorem dat2_Φ (c : Dev nD) (t) : (dat2 Vv c).Φ t = Pipeline.scopedRest spec2 c := by dsimp only [dat2]
theorem dat2_owed (c : Dev nD) (t) : (dat2 Vv c).owed t = 0 := by dsimp only [dat2]
theorem dat2_recorded (c : Dev nD) (t) : (dat2 Vv c).recorded t = recd (F := F) c := by dsimp only [dat2]
theorem dat2_q (c : Dev nD) (w) : (dat2 Vv c).q w = fullShare := by dsimp only [dat2]

/-- What a step leaves in each window. -/
theorem after2_0 (c : Dev nD) (t : Fin cfg2.N) : (dat2 Vv c).after 0 t = blk2 Vv c 0 t := by dsimp only [dat2]
theorem after2_1 (c : Dev nD) (t : Fin cfg2.N) : (dat2 Vv c).after 1 t = blk2 Vv c 1 t := by dsimp only [dat2]
theorem after2_2 (c : Dev nD) (t : Fin cfg2.N) : (dat2 Vv c).after 2 t = blk2 Vv c 2 t := by dsimp only [dat2]
theorem after2_3 (c : Dev nD) (t : Fin cfg2.N) : (dat2 Vv c).after 3 t = blk2 Vv c 3 t := by dsimp only [dat2]
theorem after2_4 (c : Dev nD) (t : Fin cfg2.N) : (dat2 Vv c).after 4 t = blk2 Vv c 4 t := by dsimp only [dat2]
theorem after2_5 (c : Dev nD) (t : Fin cfg2.N) : (dat2 Vv c).after 5 t = blk2 Vv c 5 t := by dsimp only [dat2]
theorem after2_6 (c : Dev nD) (t : Fin cfg2.N) : (dat2 Vv c).after 6 t = blk2 Vv c 6 t := by dsimp only [dat2]
theorem after2_7 (c : Dev nD) (t : Fin cfg2.N) : (dat2 Vv c).after 7 t = out2 Vv c t := by dsimp only [dat2]

/-- What a step finds in each input window: its block. -/
theorem before2_0 (c : Dev nD) (t : Fin cfg2.N) (d) : (dat2 Vv c).before 0 t d = blk2 Vv c 0 t :=
  ((dat2 Vv c).before_in_eq_fetched 0 rfl (fun _ => rfl) (fun _ _ _ => rfl) (fun t => by rw [after2_0]; unfold Dat.blockOf blk2; rw [dat2_A]; try rfl) t d).trans
    (by unfold Dat.fetched Dat.blockOf blk2; rw [dat2_A]; try rfl)
theorem before2_1 (c : Dev nD) (t : Fin cfg2.N) (d) : (dat2 Vv c).before 1 t d = blk2 Vv c 1 t :=
  ((dat2 Vv c).before_in_eq_fetched 1 rfl (fun _ => rfl) (fun _ _ _ => rfl) (fun t => by rw [after2_1]; unfold Dat.blockOf blk2; rw [dat2_A]; try rfl) t d).trans
    (by unfold Dat.fetched Dat.blockOf blk2; rw [dat2_A]; try rfl)
theorem before2_2 (c : Dev nD) (t : Fin cfg2.N) (d) : (dat2 Vv c).before 2 t d = blk2 Vv c 2 t :=
  ((dat2 Vv c).before_in_eq_fetched 2 rfl (fun _ => rfl) (fun _ _ _ => rfl) (fun t => by rw [after2_2]; unfold Dat.blockOf blk2; rw [dat2_A]; try rfl) t d).trans
    (by unfold Dat.fetched Dat.blockOf blk2; rw [dat2_A]; try rfl)
theorem before2_3 (c : Dev nD) (t : Fin cfg2.N) (d) : (dat2 Vv c).before 3 t d = blk2 Vv c 3 t :=
  ((dat2 Vv c).before_in_eq_fetched 3 rfl (fun _ => rfl) (fun _ _ _ => rfl) (fun t => by rw [after2_3]; unfold Dat.blockOf blk2; rw [dat2_A]; try rfl) t d).trans
    (by unfold Dat.fetched Dat.blockOf blk2; rw [dat2_A]; try rfl)
theorem before2_4 (c : Dev nD) (t : Fin cfg2.N) (d) : (dat2 Vv c).before 4 t d = blk2 Vv c 4 t :=
  ((dat2 Vv c).before_in_eq_fetched 4 rfl (fun _ => rfl) (fun _ _ _ => rfl) (fun t => by rw [after2_4]; unfold Dat.blockOf blk2; rw [dat2_A]; try rfl) t d).trans
    (by unfold Dat.fetched Dat.blockOf blk2; rw [dat2_A]; try rfl)
theorem before2_5 (c : Dev nD) (t : Fin cfg2.N) (d) : (dat2 Vv c).before 5 t d = blk2 Vv c 5 t :=
  ((dat2 Vv c).before_in_eq_fetched 5 rfl (fun _ => rfl) (fun _ _ _ => rfl) (fun t => by rw [after2_5]; unfold Dat.blockOf blk2; rw [dat2_A]; try rfl) t d).trans
    (by unfold Dat.fetched Dat.blockOf blk2; rw [dat2_A]; try rfl)
theorem before2_6 (c : Dev nD) (t : Fin cfg2.N) (d) : (dat2 Vv c).before 6 t d = blk2 Vv c 6 t :=
  ((dat2 Vv c).before_in_eq_fetched 6 rfl (fun _ => rfl) (fun _ _ _ => rfl) (fun t => by rw [after2_6]; unfold Dat.blockOf blk2; rw [dat2_A]; try rfl) t d).trans
    (by unfold Dat.fetched Dat.blockOf blk2; rw [dat2_A]; try rfl)

/-- What the body is called with at point `t` of call 2, and what it returns. -/
def pre2 (c : Dev nD) (t : Fin cfg2.N) : sProp 𝕄 :=
  iprop((dat2 Vv c).Φ t.castSucc ∗ (dat2 Vv c).owesAt none t.castSucc
    ∗ (∃ d, owns (c : Thread nD τ) (st2_0 t) fullShare ((dat2 Vv c).before 0 t d))
    ∗ (∃ d, owns (c : Thread nD τ) (st2_1 t) fullShare ((dat2 Vv c).before 1 t d))
    ∗ (∃ d, owns (c : Thread nD τ) (st2_2 t) fullShare ((dat2 Vv c).before 2 t d))
    ∗ (∃ d, owns (c : Thread nD τ) (st2_3 t) fullShare ((dat2 Vv c).before 3 t d))
    ∗ (∃ d, owns (c : Thread nD τ) (st2_4 t) fullShare ((dat2 Vv c).before 4 t d))
    ∗ (∃ d, owns (c : Thread nD τ) (st2_5 t) fullShare ((dat2 Vv c).before 5 t d))
    ∗ (∃ d, owns (c : Thread nD τ) (st2_6 t) fullShare ((dat2 Vv c).before 6 t d))
    ∗ (∃ d, owns (c : Thread nD τ) (st2_7 t) fullShare ((dat2 Vv c).before 7 t d)))
/-- What a step of the first TensorCore call leaves. -/
def post2 (c : Dev nD) (t : Fin cfg2.N) : sProp 𝕄 :=
  iprop((dat2 Vv c).Φ t.succ ∗ (dat2 Vv c).owesAt none t.succ
    ∗ owns (c : Thread nD τ) (st2_0 t) fullShare ((dat2 Vv c).after 0 t)
    ∗ owns (c : Thread nD τ) (st2_1 t) fullShare ((dat2 Vv c).after 1 t)
    ∗ owns (c : Thread nD τ) (st2_2 t) fullShare ((dat2 Vv c).after 2 t)
    ∗ owns (c : Thread nD τ) (st2_3 t) fullShare ((dat2 Vv c).after 3 t)
    ∗ owns (c : Thread nD τ) (st2_4 t) fullShare ((dat2 Vv c).after 4 t)
    ∗ owns (c : Thread nD τ) (st2_5 t) fullShare ((dat2 Vv c).after 5 t)
    ∗ owns (c : Thread nD τ) (st2_6 t) fullShare ((dat2 Vv c).after 6 t)
    ∗ owns (c : Thread nD τ) (st2_7 t) fullShare ((dat2 Vv c).after 7 t))

/-- A step of the first TensorCore call: from its blocks to its result block. -/
theorem body2 (c : Dev nD) (t : Fin cfg2.N) :
    pre2 Vv c t ⊢ wp frame (wpE (defs₀ (F := F)) 𝒱₀ c none) Set.univ (bodyAt2 t) (fun _ => post2 Vv c t) := by
  unfold pre2 post2
  simp only [before2_0, before2_1, before2_2, before2_3, before2_4, before2_5, before2_6]
  rw [show (dat2 Vv c).Φ t.succ = (dat2 Vv c).Φ t.castSucc from rfl,
    show (dat2 Vv c).owesAt none t.succ = (dat2 Vv c).owesAt none t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (mlp_run c (grid2.coords t) (st2_0 t) (hstage2_0 ((cfg2.slots t 0).cast nbuf2_0))
    (st2_1 t) (hstage2_1 ((cfg2.slots t 1).cast nbuf2_1))
    (st2_2 t) (hstage2_2 ((cfg2.slots t 2).cast nbuf2_2))
    (st2_3 t) (hstage2_3 ((cfg2.slots t 3).cast nbuf2_3))
    (st2_4 t) (hstage2_4 ((cfg2.slots t 4).cast nbuf2_4))
    (st2_5 t) (hstage2_5 ((cfg2.slots t 5).cast nbuf2_5))
    (st2_6 t) (hstage2_6 ((cfg2.slots t 6).cast nbuf2_6))
    (st2_7 t) (hstage2_7 ((cfg2.slots t 7).cast nbuf2_7))
    (blk2 Vv c 0 t) (blk2 Vv c 1 t) (blk2 Vv c 2 t)
    (blk2 Vv c 3 t) (blk2 Vv c 4 t) (blk2 Vv c 5 t) (blk2 Vv c 6 t) _)
  unfold mlpIns
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨⟨H0, H1, H2, H3, H4, H5, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body that the pipeline runs at a step is the program's. -/
theorem row2 (t : Fin cfg2.N) : defs₀ (F := F) .tc cfg2.body (cfg2.bodyArgs t (cfg2.slots t)) = bodyAt2 t := by
  rfl

/-- The body meets call 2's proof data at every point. -/
theorem obl2 (c : Dev nD) : BodyObligation (dat2 Vv c) (defs₀ (F := F)) 𝒱₀ none Set.univ := fun t => by
  rw [bigSep_W2, bigSep_W2, row2]
  exact triple_restated (body2 Vv c t) rfl .rfl fun _ => .rfl

/-- Window `w`'s block at point `t` of call 3, read off its array's contents. -/
def blk3 (c : Dev nD) (w : Fin cfg3.W) (t : Fin cfg3.N) : ((cfg3.win w).xblock (cfg3.grid.coords t)).Idx → Elt F (cfg3.win w).elt :=
  ((cfg3.win w).blk t).view.read (Elt F) (Vv c (Pipeline.arrRef spec3 w))

/-- The result's block at point `t` of call 3. -/
def out3 (c : Dev nD) (t : Fin cfg3.N) : Vec F S50x16x2048 .f32 :=
  mlpOut (blk3 Vv c 0 t) (blk3 Vv c 1 t) (blk3 Vv c 2 t) (blk3 Vv c 3 t) (blk3 Vv c 4 t) (blk3 Vv c 5 t) (blk3 Vv c 6 t)

/-- Call 3's proof data: the arrays at `Vv`; the inputs' blocks stay, the result's becomes `out3`. -/
def dat3 (c : Dev nD) : Dat τ (Elt F) (HIx 2) ℕ UU ℕ cfg3 c where
  A w := Vv c (Pipeline.arrRef spec3 w)
  after w t := match w with
    | ⟨0, _⟩ => blk3 Vv c 0 t
    | ⟨1, _⟩ => blk3 Vv c 1 t
    | ⟨2, _⟩ => blk3 Vv c 2 t
    | ⟨3, _⟩ => blk3 Vv c 3 t
    | ⟨4, _⟩ => blk3 Vv c 4 t
    | ⟨5, _⟩ => blk3 Vv c 5 t
    | ⟨6, _⟩ => blk3 Vv c 6 t
    | ⟨7, _⟩ => out3 Vv c t
  Φ _ := Pipeline.scopedRest spec3 c
  q _ := fullShare
  owed _ := 0
  recorded _ := recd (F := F) c

/-- The second call's data, field by field. -/
theorem dat3_A (c : Dev nD) (w : Fin cfg3.W) : (dat3 Vv c).A w = Vv c (Pipeline.arrRef spec3 w) := by dsimp only [dat3]
theorem dat3_Φ (c : Dev nD) (t) : (dat3 Vv c).Φ t = Pipeline.scopedRest spec3 c := by dsimp only [dat3]
theorem dat3_owed (c : Dev nD) (t) : (dat3 Vv c).owed t = 0 := by dsimp only [dat3]
theorem dat3_recorded (c : Dev nD) (t) : (dat3 Vv c).recorded t = recd (F := F) c := by dsimp only [dat3]
theorem dat3_q (c : Dev nD) (w) : (dat3 Vv c).q w = fullShare := by dsimp only [dat3]

/-- What a step leaves in each window. -/
theorem after3_0 (c : Dev nD) (t : Fin cfg3.N) : (dat3 Vv c).after 0 t = blk3 Vv c 0 t := by dsimp only [dat3]
theorem after3_1 (c : Dev nD) (t : Fin cfg3.N) : (dat3 Vv c).after 1 t = blk3 Vv c 1 t := by dsimp only [dat3]
theorem after3_2 (c : Dev nD) (t : Fin cfg3.N) : (dat3 Vv c).after 2 t = blk3 Vv c 2 t := by dsimp only [dat3]
theorem after3_3 (c : Dev nD) (t : Fin cfg3.N) : (dat3 Vv c).after 3 t = blk3 Vv c 3 t := by dsimp only [dat3]
theorem after3_4 (c : Dev nD) (t : Fin cfg3.N) : (dat3 Vv c).after 4 t = blk3 Vv c 4 t := by dsimp only [dat3]
theorem after3_5 (c : Dev nD) (t : Fin cfg3.N) : (dat3 Vv c).after 5 t = blk3 Vv c 5 t := by dsimp only [dat3]
theorem after3_6 (c : Dev nD) (t : Fin cfg3.N) : (dat3 Vv c).after 6 t = blk3 Vv c 6 t := by dsimp only [dat3]
theorem after3_7 (c : Dev nD) (t : Fin cfg3.N) : (dat3 Vv c).after 7 t = out3 Vv c t := by dsimp only [dat3]

/-- What a step finds in each input window: its block. -/
theorem before3_0 (c : Dev nD) (t : Fin cfg3.N) (d) : (dat3 Vv c).before 0 t d = blk3 Vv c 0 t :=
  ((dat3 Vv c).before_in_eq_fetched 0 rfl (fun _ => rfl) (fun _ _ _ => rfl) (fun t => by rw [after3_0]; unfold Dat.blockOf blk3; rw [dat3_A]; try rfl) t d).trans
    (by unfold Dat.fetched Dat.blockOf blk3; rw [dat3_A]; try rfl)
theorem before3_1 (c : Dev nD) (t : Fin cfg3.N) (d) : (dat3 Vv c).before 1 t d = blk3 Vv c 1 t :=
  ((dat3 Vv c).before_in_eq_fetched 1 rfl (fun _ => rfl) (fun _ _ _ => rfl) (fun t => by rw [after3_1]; unfold Dat.blockOf blk3; rw [dat3_A]; try rfl) t d).trans
    (by unfold Dat.fetched Dat.blockOf blk3; rw [dat3_A]; try rfl)
theorem before3_2 (c : Dev nD) (t : Fin cfg3.N) (d) : (dat3 Vv c).before 2 t d = blk3 Vv c 2 t :=
  ((dat3 Vv c).before_in_eq_fetched 2 rfl (fun _ => rfl) (fun _ _ _ => rfl) (fun t => by rw [after3_2]; unfold Dat.blockOf blk3; rw [dat3_A]; try rfl) t d).trans
    (by unfold Dat.fetched Dat.blockOf blk3; rw [dat3_A]; try rfl)
theorem before3_3 (c : Dev nD) (t : Fin cfg3.N) (d) : (dat3 Vv c).before 3 t d = blk3 Vv c 3 t :=
  ((dat3 Vv c).before_in_eq_fetched 3 rfl (fun _ => rfl) (fun _ _ _ => rfl) (fun t => by rw [after3_3]; unfold Dat.blockOf blk3; rw [dat3_A]; try rfl) t d).trans
    (by unfold Dat.fetched Dat.blockOf blk3; rw [dat3_A]; try rfl)
theorem before3_4 (c : Dev nD) (t : Fin cfg3.N) (d) : (dat3 Vv c).before 4 t d = blk3 Vv c 4 t :=
  ((dat3 Vv c).before_in_eq_fetched 4 rfl (fun _ => rfl) (fun _ _ _ => rfl) (fun t => by rw [after3_4]; unfold Dat.blockOf blk3; rw [dat3_A]; try rfl) t d).trans
    (by unfold Dat.fetched Dat.blockOf blk3; rw [dat3_A]; try rfl)
theorem before3_5 (c : Dev nD) (t : Fin cfg3.N) (d) : (dat3 Vv c).before 5 t d = blk3 Vv c 5 t :=
  ((dat3 Vv c).before_in_eq_fetched 5 rfl (fun _ => rfl) (fun _ _ _ => rfl) (fun t => by rw [after3_5]; unfold Dat.blockOf blk3; rw [dat3_A]; try rfl) t d).trans
    (by unfold Dat.fetched Dat.blockOf blk3; rw [dat3_A]; try rfl)
theorem before3_6 (c : Dev nD) (t : Fin cfg3.N) (d) : (dat3 Vv c).before 6 t d = blk3 Vv c 6 t :=
  ((dat3 Vv c).before_in_eq_fetched 6 rfl (fun _ => rfl) (fun _ _ _ => rfl) (fun t => by rw [after3_6]; unfold Dat.blockOf blk3; rw [dat3_A]; try rfl) t d).trans
    (by unfold Dat.fetched Dat.blockOf blk3; rw [dat3_A]; try rfl)

/-- What the body is called with at point `t` of call 3, and what it returns. -/
def pre3 (c : Dev nD) (t : Fin cfg3.N) : sProp 𝕄 :=
  iprop((dat3 Vv c).Φ t.castSucc ∗ (dat3 Vv c).owesAt none t.castSucc
    ∗ (∃ d, owns (c : Thread nD τ) (st3_0 t) fullShare ((dat3 Vv c).before 0 t d))
    ∗ (∃ d, owns (c : Thread nD τ) (st3_1 t) fullShare ((dat3 Vv c).before 1 t d))
    ∗ (∃ d, owns (c : Thread nD τ) (st3_2 t) fullShare ((dat3 Vv c).before 2 t d))
    ∗ (∃ d, owns (c : Thread nD τ) (st3_3 t) fullShare ((dat3 Vv c).before 3 t d))
    ∗ (∃ d, owns (c : Thread nD τ) (st3_4 t) fullShare ((dat3 Vv c).before 4 t d))
    ∗ (∃ d, owns (c : Thread nD τ) (st3_5 t) fullShare ((dat3 Vv c).before 5 t d))
    ∗ (∃ d, owns (c : Thread nD τ) (st3_6 t) fullShare ((dat3 Vv c).before 6 t d))
    ∗ (∃ d, owns (c : Thread nD τ) (st3_7 t) fullShare ((dat3 Vv c).before 7 t d)))
/-- What a step of the second TensorCore call leaves. -/
def post3 (c : Dev nD) (t : Fin cfg3.N) : sProp 𝕄 :=
  iprop((dat3 Vv c).Φ t.succ ∗ (dat3 Vv c).owesAt none t.succ
    ∗ owns (c : Thread nD τ) (st3_0 t) fullShare ((dat3 Vv c).after 0 t)
    ∗ owns (c : Thread nD τ) (st3_1 t) fullShare ((dat3 Vv c).after 1 t)
    ∗ owns (c : Thread nD τ) (st3_2 t) fullShare ((dat3 Vv c).after 2 t)
    ∗ owns (c : Thread nD τ) (st3_3 t) fullShare ((dat3 Vv c).after 3 t)
    ∗ owns (c : Thread nD τ) (st3_4 t) fullShare ((dat3 Vv c).after 4 t)
    ∗ owns (c : Thread nD τ) (st3_5 t) fullShare ((dat3 Vv c).after 5 t)
    ∗ owns (c : Thread nD τ) (st3_6 t) fullShare ((dat3 Vv c).after 6 t)
    ∗ owns (c : Thread nD τ) (st3_7 t) fullShare ((dat3 Vv c).after 7 t))

/-- A step of the second TensorCore call: from its blocks to its result block. -/
theorem body3 (c : Dev nD) (t : Fin cfg3.N) :
    pre3 Vv c t ⊢ wp frame (wpE (defs₀ (F := F)) 𝒱₀ c none) Set.univ (bodyAt3 t) (fun _ => post3 Vv c t) := by
  unfold pre3 post3
  simp only [before3_0, before3_1, before3_2, before3_3, before3_4, before3_5, before3_6]
  rw [show (dat3 Vv c).Φ t.succ = (dat3 Vv c).Φ t.castSucc from rfl,
    show (dat3 Vv c).owesAt none t.succ = (dat3 Vv c).owesAt none t.castSucc from rfl,
    after3_0, after3_1, after3_2, after3_3, after3_4, after3_5, after3_6, after3_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (mlp_run c (grid3.coords t) (st3_0 t) (hstage3_0 ((cfg3.slots t 0).cast nbuf3_0))
    (st3_1 t) (hstage3_1 ((cfg3.slots t 1).cast nbuf3_1))
    (st3_2 t) (hstage3_2 ((cfg3.slots t 2).cast nbuf3_2))
    (st3_3 t) (hstage3_3 ((cfg3.slots t 3).cast nbuf3_3))
    (st3_4 t) (hstage3_4 ((cfg3.slots t 4).cast nbuf3_4))
    (st3_5 t) (hstage3_5 ((cfg3.slots t 5).cast nbuf3_5))
    (st3_6 t) (hstage3_6 ((cfg3.slots t 6).cast nbuf3_6))
    (st3_7 t) (hstage3_7 ((cfg3.slots t 7).cast nbuf3_7))
    (blk3 Vv c 0 t) (blk3 Vv c 1 t) (blk3 Vv c 2 t)
    (blk3 Vv c 3 t) (blk3 Vv c 4 t) (blk3 Vv c 5 t) (blk3 Vv c 6 t) _)
  unfold mlpIns
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7]; · iexists _; iexact H7
  iintro ⟨⟨H0, H1, H2, H3, H4, H5, H6⟩, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body that the pipeline runs at a step is the program's. -/
theorem row3 (t : Fin cfg3.N) : defs₀ (F := F) .tc cfg3.body (cfg3.bodyArgs t (cfg3.slots t)) = bodyAt3 t := by
  rfl

/-- The body meets call 3's proof data at every point. -/
theorem obl3 (c : Dev nD) : BodyObligation (dat3 Vv c) (defs₀ (F := F)) 𝒱₀ none Set.univ := fun t => by
  rw [bigSep_W3, bigSep_W3, row3]
  exact triple_restated (body3 Vv c t) rfl .rfl fun _ => .rfl

end Cert.Proof.Sc

end
-- ==== Proof.Sc.Region.lean ====
/-
  The two MLP calls as steps of the TensorCore: entered with every array in HBM at some contents, left with the call's
  result rewritten and everything else as it was.
-/
module

public import proofs.«01_k».proof.Proof.Sc.Mlp
public import Idealize.ShloMosaic.Lib.Pipeline.RegionsLoop

@[expose] public section

noncomputable section

namespace Cert.Proof.Sc

open Cert.KernelIdeal Cert.KernelIdeal.Gen
open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat Cfg Window BodyObligation)

variable {F : FTy → Type} [FloatOps F]

local notation "𝕄" => MT nD τ sig (HIx 2) (Elt F) ℕ UU ℕ

/-- No pipeline has a prefetched table. -/
abbrev adm : (p : Fin 2) → (pcfgs (F := F) p).Adm := fun p => (cfgs p).toPCfg_adm

variable (W : Valuation τ sig (Elt F))

/-- The two pipelines' proof data over one valuation of the arrays. -/
def pdats : (p : Fin 2) → (c : Dev nD) → Dat τ (Elt F) (HIx 2) ℕ UU ℕ (Pipeline.pin (pcfgs (F := F)) adm p) c
  | ⟨0, _⟩ => fun c => dat2 (fun _ b => W b) c
  | ⟨1, _⟩ => fun c => dat3 (fun _ b => W b) c

/-- What the TensorCore owes between calls: nothing, its recorded waits within the bound. -/
def idle (c : Dev nD) : sProp 𝕄 :=
  iprop(∃ Wt, ⌜(K (F := F)).WBelow (T c) Wt 16⌝ ∗ owes (T c) (0 : CellTallies nD τ sig (HIx 2)) Wt)

/-- The launch facts of each pipeline. -/
theorem kit : (p : Fin 2) → Pipeline.LaunchFacts (nD := nD) (τ := τ) cfgs p
  | ⟨0, _⟩ => launch2
  | ⟨1, _⟩ => launch3

/-- The two calls' data, field by field: the arrays, -/
theorem pdats_A (p : Fin 2) (c : Dev nD) (w : Fin (Pipeline.pin (pcfgs (F := F)) adm p).W) :
    (pdats W p c).A w = W (Pipeline.arrRef (cfgs p).spec w) := by
  match p with
  | ⟨0, _⟩ => exact dat2_A (fun _ b => W b) c w
  | ⟨1, _⟩ => exact dat3_A (fun _ b => W b) c w

/-- what rides along, -/
theorem pdats_Φ (p : Fin 2) (c : Dev nD) (t) : (pdats W p c).Φ t = Pipeline.scopedRest (cfgs p).spec c := by
  match p with
  | ⟨0, _⟩ => exact dat2_Φ (fun _ b => W b) c t
  | ⟨1, _⟩ => exact dat3_Φ (fun _ b => W b) c t

/-- nothing owed, -/
theorem pdats_owed (p : Fin 2) (c : Dev nD) (t) : (pdats W p c).owed t = 0 := by
  match p with
  | ⟨0, _⟩ => exact dat2_owed (fun _ b => W b) c t
  | ⟨1, _⟩ => exact dat3_owed (fun _ b => W b) c t

/-- what is recorded, -/
theorem pdats_recorded (p : Fin 2) (c : Dev nD) (t) : (pdats W p c).recorded t = recd (F := F) c := by
  match p with
  | ⟨0, _⟩ => exact dat2_recorded (fun _ b => W b) c t
  | ⟨1, _⟩ => exact dat3_recorded (fun _ b => W b) c t

/-- full shares, -/
theorem pdats_share (p : Fin 2) (c : Dev nD) (w) : (pdats W p c).share w = fullShare := by
  match p with
  | ⟨0, _⟩ => exact (dat2 (fun _ b => W b) c).share_full (dat2_q (fun _ b => W b) c) w
  | ⟨1, _⟩ => exact (dat3 (fun _ b => W b) c).share_full (dat3_q (fun _ b => W b) c) w

/-- and each step's obligation. -/
theorem pdats_body (p : Fin 2) (c : Dev nD) : BodyObligation (pdats W p c) (defs₀ (F := F)) 𝒱₀ none Set.univ := by
  match p with
  | ⟨0, _⟩ => exact obl2 (fun _ b => W b) c
  | ⟨1, _⟩ => exact obl3 (fun _ b => W b) c

set_option backward.isDefEq.respectTransparency.types false in
/-- Call `p` of the two MLP calls, from every unscoped buffer at `W` to every one at `W'`, where `W'` has the call's arrays
    as the pipeline leaves them and agrees with `W` off them. -/
def seg (p : Fin 2) (W' : Valuation τ sig (Elt F))
    (hW' : ∀ c w, (pdats W p c).arrAt w (Pipeline.pin (pcfgs (F := F)) adm p).N = W' (Pipeline.arrRef (cfgs p).spec w))
    (hoff : ∀ b : Ref sig .tc, b ∉ Finset.univ.image (Pipeline.arrRef (cfgs p).spec) → W' b = W b) :
    Pipeline.RegionSeg (pcfgs (F := F)) adm (pdats W) none defs₀ 𝒱₀ (K (F := F)).L (K (F := F)).lev p where
  win := (kit p).win.to₀
  block_pos := (kit p).block_pos
  stage_whole := (kit p).stage_whole
  K := PEmpty
  osem k := k.elim
  ho := Pipeline.OwnSemFacts.none _
  hbody c := (pdats_body W p c).loose
  hwaits := Pipeline.hwaits_of_owed_zero _ _ _ _ (K (F := F)).L (K (F := F)).lev p fun c t => pdats_owed W p c t
  pre c := iprop(unscopedBufs c (fun b => W b) ∗ idle (F := F) c)
  post c := iprop(unscopedBufs c (fun b => W' b) ∗ idle (F := F) c)
  X _ := BI.emp
  Y _ := BI.emp
  Z c := iprop(Pipeline.unscopedRest (Ix := HIx 2) (Name := ℕ) (U := UU) (Lvl := ℕ) (cfgs p).spec c (fun b => W b))
  hentry c := by
    rw [Pipeline.ownSems0_none]
    have hsplit := Pipeline.arrays_of_unscopedBufs (p := p) (pcfgs (F := F)) adm (pdats W) (kit p).win (kit p).arr_whole c
      (pdats_share W p c) (fun b => W b) fun w => pdats_A W p c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold idle Pipeline.Dat.owesAt Pipeline.owesWithin Pipeline.Dat.bound
      rw [pdats_owed, pdats_recorded]
      icases HO with ⟨%Wt, %hWt, HO⟩; iexists Wt; isplitr; · ipureintro; exact fun q hq => Or.inl (hWt q hq)
      iexact HO
    isplitr; · iempintro
    iexact Hrest
  hin c := by
    rw [pdats_Φ]
    iintro ⟨-, -, Hr⟩; iexact Hr
  hout c := by
    rw [Pipeline.ownSems0_none, pdats_Φ]
    iintro Hr
    isplitr; · iempintro
    isplitr; · iempintro
    iexact Hr
  hexit c := by
    have hjoin := Pipeline.unscopedBufs_of_arrays (p := p) (pcfgs (F := F)) adm (Ix := HIx 2) (Name := ℕ) (U := UU) (Lvl := ℕ) (kit p).win (kit p).arr_whole c
      (pdats W) (pdats_share W p c) (fun b => W b) (fun b => W' b) ((pdats W p c).arrAt · (Pipeline.pin (pcfgs (F := F)) adm p).N)
      (hW' c) hoff
    iintro ⟨Ha, HO, -, Hrest⟩
    imodintro
    isplitl [Ha Hrest]
    · iapply hjoin; isplitl [Ha] <;> iassumption
    unfold idle Pipeline.Dat.owesAt Pipeline.owesWithin Pipeline.Dat.bound
    rw [pdats_owed, pdats_recorded]
    icases HO with ⟨%Wt, %hWt, HO⟩; iexists Wt; isplitr
    · ipureintro
      rintro q hq
      rcases hWt hq with h | ⟨w, s, h⟩
      · exact h
      · rw [h]; exact Nat.zero_le _
    iexact HO

end Cert.Proof.Sc

end
-- ==== Proof.Sc.Host.lean ====
/-
  @main on the host side: its five stretches of host operations around the four calls, and what every array in HBM holds
  after each of them.
-/
module

public import proofs.«01_k».proof.Proof.Sc.Calls
public import proofs.«01_k».proof.Proof.Sc.Region

@[expose] public section

noncomputable section

namespace Cert.Proof.Sc

open Cert.KernelIdeal Cert.KernelIdeal.Gen
open Idealize.ShloMosaic Idealize.ShloMosaic.TcCoe
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (seq seqK after held)
open Idealize.ShloMosaic.Pipeline (ucRefs)

variable {F : FTy → Type}

local notation "𝕄" => MT nD τ sig (HIx 2) (Elt F) ℕ UU ℕ

/-! ## The stretches -/

/-- Before the first gather: the index list in the kernel's order, the table's rows in two halves, the first half of the list. -/
abbrev ops1 : List (HloOp τ sig (Elt F)) :=
  [StableHlo.unary main_arg0 main_v0 ((transpose S50x1024 [1, 0] · transposes_S1024x50_S50x1024_1_0) : (⟨S1024x50, .i32⟩ : BufTy).Contents (Elt F) → (⟨S50x1024, .i32⟩ : BufTy).Contents (Elt F)),
   StableHlo.reshape main_v0 main_v1 (rfl : (.i32 : EltTy) = .i32) shapeCasts_S50x1024_S50x64x16,
   StableHlo.unary main_v1 main_v2 ((transpose S64x50x16 [1, 0, 2] · transposes_S50x64x16_S64x50x16_1_0_2) : (⟨S50x64x16, .i32⟩ : BufTy).Contents (Elt F) → (⟨S64x50x16, .i32⟩ : BufTy).Contents (Elt F)),
   StableHlo.reshape main_v2 main_v3 (rfl : (.i32 : EltTy) = .i32) shapeCasts_S64x50x16_S51200,
   StableHlo.reshape main_arg1 main_v4 (rfl : (.f32 : EltTy) = .f32) shapeCasts_S500x256_S500x2x128,
   StableHlo.unary main_v3 main_v5 ((extractStridedSlice S25600 ![0] · slices_S51200_S25600_0) : (⟨S51200, .i32⟩ : BufTy).Contents (Elt F) → (⟨S25600, .i32⟩ : BufTy).Contents (Elt F))]

/-- Between the gathers: the first gather's rows whole again, the second half of the list. -/
abbrev ops2 : List (HloOp τ sig (Elt F)) :=
  [StableHlo.reshape main_v6 main_v7 (rfl : (.f32 : EltTy) = .f32) shapeCasts_S25600x2x128_S25600x256,
   StableHlo.unary main_v3 main_v8 ((extractStridedSlice S25600 ![25600] · slices_S51200_S25600_25600) : (⟨S51200, .i32⟩ : BufTy).Contents (Elt F) → (⟨S25600, .i32⟩ : BufTy).Contents (Elt F))]

/-- Before the first MLP call: the second gather's rows whole again, the vectors as one-row matrices. -/
abbrev ops3 : List (HloOp τ sig (Elt F)) :=
  [StableHlo.reshape main_v9 main_v10 (rfl : (.f32 : EltTy) = .f32) shapeCasts_S25600x2x128_S25600x256,
   StableHlo.reshape main_arg3 main_v11 (rfl : (.f32 : EltTy) = .f32) shapeCasts_S1024_S1x1024,
   StableHlo.reshape main_arg5 main_v12 (rfl : (.f32 : EltTy) = .f32) shapeCasts_S2048_S1x2048,
   StableHlo.reshape main_arg6 main_v13 (rfl : (.f32 : EltTy) = .f32) shapeCasts_S2048_S1x2048,
   StableHlo.reshape main_arg7 main_v14 (rfl : (.f32 : EltTy) = .f32) shapeCasts_S2048_S1x2048]

/-- Between the MLP calls: the second's result starts as the first's. -/
abbrev ops4 : List (HloOp τ sig (Elt F)) := [StableHlo.unary main_v15 main_v16 id]

/-- At the end: the batch first. -/
abbrev ops5 : List (HloOp τ sig (Elt F)) :=
  [StableHlo.unary main_v16 main_v17 ((transpose S1024x50x2048 [1, 0, 2] · transposes_S50x1024x2048_S1024x50x2048_1_0_2) : (⟨S50x1024x2048, .f32⟩ : BufTy).Contents (Elt F) → (⟨S1024x50x2048, .f32⟩ : BufTy).Contents (Elt F))]

/-- Every operation names TensorCore arrays only. -/
theorem subs : ∀ l ∈ [ops1 (F := F), ops2, ops3, ops4, ops5], ∀ op ∈ l, op.bufs ⊆ ucRefs τ sig := by
  have h : ([ops1 (F := F), ops2, ops3, ops4, ops5]).Forall fun l => l.Forall fun op => op.bufs ⊆ StableHlo.tcRefs τ sig := by
    simp only [List.Forall, StableHlo.unary_bufs_sub, StableHlo.reshape_bufs_sub, and_self]
  exact fun l hl op hop => Pipeline.sub_ucRefs op ((List.forall_iff_forall_mem.mp ((List.forall_iff_forall_mem.mp h) l hl)) op hop)

/-- None writes a buffer of its own. -/
theorem freshs : ∀ l ∈ [ops1 (F := F), ops2, ops3, ops4, ops5], ∀ op ∈ l, op.fresh = ∅ := by
  have h : ([ops1 (F := F), ops2, ops3, ops4, ops5]).Forall fun l => l.Forall fun op => op.fresh = ∅ := by
    simp only [List.Forall]; repeat' constructor
  exact fun l hl op hop => (List.forall_iff_forall_mem.mp ((List.forall_iff_forall_mem.mp h) l hl)) op hop

variable [FloatOps F]

/-- @main is those stretches around the calls. -/
theorem main_eq (d : Dev nD) : main (F := F) d = (do
    seq ops1
    (K (F := F)).run d 0
    seq ops2
    (K (F := F)).run d 1
    seq ops3
    Prog.lift (.customCall (SparseCore.inner (Pipeline.entry 0)) ())
    seq ops4
    Prog.lift (.customCall (SparseCore.inner (Pipeline.entry 1)) ())
    seq ops5) := by
  have h5 : seq (nD := nD) (Λ := SparseCore.Sig (ΛP (F := F)) 2) (ops5 (F := F)) = (seq ops5 >>= fun _ => pure ⟨⟩) := by simp only [bind_pure_unit]
  rw [h5]
  simp only [StableHlo.seq_bind_seqK]
  rfl

/-! ## The arrays after each step -/

/-- A valuation with one TensorCore array at other contents. -/
def put (W : Valuation τ sig (Elt F)) (r : Ref sig .tc) (f : (Proc.devRef (τ := τ) .tc r).ty.Contents (Elt F)) : Valuation τ sig (Elt F) :=
  Function.update W (Proc.devRef .tc r) f

/-- A written array reads as what was written; -/
theorem put_self (W : Valuation τ sig (Elt F)) (r : Ref sig .tc) (f) : put W r f (Proc.devRef .tc r) = f := Function.update_self ..
/-- another TensorCore array as before; -/
theorem put_ne (W : Valuation τ sig (Elt F)) {r r' : Ref sig .tc} (f) (h : r' ≠ r) : put W r f (Proc.devRef .tc r') = W (Proc.devRef .tc r') :=
  Function.update_of_ne (StableHlo.devRef_ne_of_ne h) ..
/-- any other array as before. -/
theorem put_off (W : Valuation τ sig (Elt F)) {r : Ref sig .tc} (f) {b : DevRef τ sig} (h : b ≠ Proc.devRef .tc r) : put W r f b = W b :=
  Function.update_of_ne h ..

/-- What the first MLP call leaves in its result, the arrays before it at `W`; -/
def arr2 (W : Valuation τ sig (Elt F)) : S50x1024x2048.Idx → Elt F .f32 := (dat2 (fun _ b => W b) 0).arrAt 7 cfg2.N
/-- and the second. -/
def arr3 (W : Valuation τ sig (Elt F)) : S50x1024x2048.Idx → Elt F .f32 := (dat3 (fun _ b => W b) 0).arrAt 7 cfg3.N

variable (m : (ℓ : Loc nD τ sig) → Buf (Elt F) ℓ) (d : Dev nD)

/-- At the first gather, -/
def V1 : Valuation τ sig (Elt F) := after ops1 fun b => m (d, b)
/-- after it, -/
def V2 : Valuation τ sig (Elt F) := put (V1 m d) main_v6 (gathered (V1 m d (Proc.devRef .tc main_v4)) (V1 m d (Proc.devRef .tc main_v5)))
/-- at the second gather, -/
def V3 : Valuation τ sig (Elt F) := after ops2 (V2 m d)
/-- after it, -/
def V4 : Valuation τ sig (Elt F) := put (V3 m d) main_v9 (gathered (V1 m d (Proc.devRef .tc main_v4)) (V3 m d (Proc.devRef .tc main_v8)))
/-- at the first MLP call, -/
def V5 : Valuation τ sig (Elt F) := after ops3 (V4 m d)
/-- after it, -/
def V6 : Valuation τ sig (Elt F) := put (V5 m d) main_v15 (arr2 (V5 m d))
/-- at the second, -/
def V7 : Valuation τ sig (Elt F) := after ops4 (V6 m d)
/-- after it, -/
def V8 : Valuation τ sig (Elt F) := put (V7 m d) main_v16 (arr3 (V7 m d))
/-- and at the end. -/
def V9 : Valuation τ sig (Elt F) := after ops5 (V8 m d)

/-- What the two gathers find. -/
def args : Args F where
  i0 d := V1 m d (Proc.devRef .tc main_v5)
  i1 d := V3 m d (Proc.devRef .tc main_v8)
  tb d := V1 m d (Proc.devRef .tc main_v4)
  o0 d := V1 m d (Proc.devRef .tc main_v6)
  o1 d := V3 m d (Proc.devRef .tc main_v9)

/-- The table is untouched between the gathers. -/
theorem V3_v4 : V3 m d (Proc.devRef .tc main_v4) = V1 m d (Proc.devRef .tc main_v4) := by
  unfold V3 V2
  after_results_simp
  exact put_ne _ _ (by decide)

/-- The first seven arrays of either MLP call are not its result. -/
theorem ins2 : ∀ w : Fin 8, w.val < 7 → Pipeline.arrRef spec2 w ≠ main_v15 := by decide
/-- The second call's inputs are not the array it writes. -/
theorem ins3 : ∀ w : Fin 8, w.val < 7 → Pipeline.arrRef spec3 w ≠ main_v16 := by decide

/-- A pipeline's arrays after the first MLP call: its result as the pipeline leaves it, the others as they were. -/
theorem hW6 (c : Dev nD) (w : Fin (Pipeline.pin (pcfgs (F := F)) adm 0).W) :
    (pdats (V5 m d) 0 c).arrAt w (Pipeline.pin (pcfgs (F := F)) adm 0).N = V6 m d (Pipeline.arrRef (cfgs 0).spec w) := by
  obtain rfl : c = 0 := Subsingleton.elim _ _
  match w with
  | ⟨0, _⟩ | ⟨1, _⟩ | ⟨2, _⟩ | ⟨3, _⟩ | ⟨4, _⟩ | ⟨5, _⟩ | ⟨6, _⟩ =>
    refine ((pdats (V5 m d) 0 0).arrAt_in _ rfl _).trans ((pdats_A (V5 m d) 0 0 _).trans (put_ne _ _ (ins2 _ (by dsimp only; omega))).symm)
  | ⟨7, _⟩ => exact (put_self (V5 m d) main_v15 (arr2 (V5 m d))).symm

/-- The first TensorCore call leaves every array outside its windows as it was, -/
theorem hoff6 (b : Ref sig .tc) (hb : b ∉ Finset.univ.image (Pipeline.arrRef (cfgs 0).spec)) : V6 m d b = V5 m d b :=
  put_ne _ _ fun h => hb (Finset.mem_image.mpr ⟨7, Finset.mem_univ _, h.symm⟩)

/-- A pipeline's arrays after the second MLP call. -/
theorem hW8 (c : Dev nD) (w : Fin (Pipeline.pin (pcfgs (F := F)) adm 1).W) :
    (pdats (V7 m d) 1 c).arrAt w (Pipeline.pin (pcfgs (F := F)) adm 1).N = V8 m d (Pipeline.arrRef (cfgs 1).spec w) := by
  obtain rfl : c = 0 := Subsingleton.elim _ _
  match w with
  | ⟨0, _⟩ | ⟨1, _⟩ | ⟨2, _⟩ | ⟨3, _⟩ | ⟨4, _⟩ | ⟨5, _⟩ | ⟨6, _⟩ =>
    refine ((pdats (V7 m d) 1 0).arrAt_in _ rfl _).trans ((pdats_A (V7 m d) 1 0 _).trans (put_ne _ _ (ins3 _ (by dsimp only; omega))).symm)
  | ⟨7, _⟩ => exact (put_self (V7 m d) main_v16 (arr3 (V7 m d))).symm

/-- and so does the second. -/
theorem hoff8 (b : Ref sig .tc) (hb : b ∉ Finset.univ.image (Pipeline.arrRef (cfgs 1).spec)) : V8 m d b = V7 m d b :=
  put_ne _ _ fun h => hb (Finset.mem_image.mpr ⟨7, Finset.mem_univ _, h.symm⟩)

/-- The result is the second MLP call's, the batch first. -/
theorem V9_v17 : V9 m d (Proc.devRef .tc main_v17) = transpose S1024x50x2048 [1, 0, 2] (arr3 (V7 m d)) transposes_S50x1024x2048_S1024x50x2048_1_0_2 := by
  unfold V9 V8
  after_results_simp
  rw [put_self]

/-- An array that nothing writes stays as launched. -/
theorem V9_kept (r : Ref sig .tc) (h : r ∉ [main_v0, main_v1, main_v2, main_v3, main_v4, main_v5, main_v6, main_v7, main_v8, main_v9, main_v10, main_v11,
      main_v12, main_v13, main_v14, main_v15, main_v16, main_v17]) :
    V9 m d (Proc.devRef .tc r) = m (d, Proc.devRef .tc r) := by
  simp only [List.mem_cons, List.not_mem_nil, or_false, not_or] at h
  obtain ⟨h0, h1, h2, h3, h4, h5, h6, h7, h8, h9, h10, h11, h12, h13, h14, h15, h16, h17⟩ := h
  unfold V9 V8 V7 V6 V5 V4 V3 V2 V1
  simp only [StableHlo.after_cons, StableHlo.after_nil]
  rw [StableHlo.unary_result_ne _ _ _ _ _ _ h17, put_ne _ _ h16, StableHlo.unary_result_ne _ _ _ _ _ _ h16, put_ne _ _ h15,
    StableHlo.reshape_result_ne _ _ _ _ _ _ _ h14, StableHlo.reshape_result_ne _ _ _ _ _ _ _ h13, StableHlo.reshape_result_ne _ _ _ _ _ _ _ h12,
    StableHlo.reshape_result_ne _ _ _ _ _ _ _ h11, StableHlo.reshape_result_ne _ _ _ _ _ _ _ h10, put_ne _ _ h9,
    StableHlo.unary_result_ne _ _ _ _ _ _ h8, StableHlo.reshape_result_ne _ _ _ _ _ _ _ h7, put_ne _ _ h6,
    StableHlo.unary_result_ne _ _ _ _ _ _ h5, StableHlo.reshape_result_ne _ _ _ _ _ _ _ h4, StableHlo.reshape_result_ne _ _ _ _ _ _ _ h3,
    StableHlo.unary_result_ne _ _ _ _ _ _ h2, StableHlo.reshape_result_ne _ _ _ _ _ _ _ h1, StableHlo.unary_result_ne _ _ _ _ _ _ h0]

/-! ## One call's three arrays, out of all of them -/

/-- Three arrays held aside from the rest. -/
theorem held_three (x y z : Ref sig .tc) (hxy : x ≠ y) (hxz : x ≠ z) (hyz : y ≠ z)
    (hs : ({Proc.devRef .tc x, Proc.devRef .tc y, Proc.devRef .tc z} : Finset (DevRef τ sig)) ⊆ ucRefs τ sig) (W : Valuation τ sig (Elt F)) :
    (held (SparseCore.T d) (ucRefs τ sig) W : sProp 𝕄)
      = iprop((((SparseCore.T d).loc x ↦{fullShare} (W (Proc.devRef .tc x) : Buf (Elt F) ((SparseCore.T d).loc x))) ∗ ((SparseCore.T d).loc y ↦{fullShare} (W (Proc.devRef .tc y) : Buf (Elt F) ((SparseCore.T d).loc y)))
          ∗ (SparseCore.T d).loc z ↦{fullShare} (W (Proc.devRef .tc z) : Buf (Elt F) ((SparseCore.T d).loc z)))
        ∗ held (SparseCore.T d) (ucRefs τ sig \ {Proc.devRef .tc x, Proc.devRef .tc y, Proc.devRef .tc z}) W) := by
  have hx : (Proc.devRef .tc x : DevRef τ sig) ∉ ({Proc.devRef .tc y, Proc.devRef .tc z} : Finset (DevRef τ sig)) := by
    simp only [Finset.mem_insert, Finset.mem_singleton, not_or]; exact ⟨StableHlo.devRef_ne_of_ne hxy, StableHlo.devRef_ne_of_ne hxz⟩
  have hy : (Proc.devRef .tc y : DevRef τ sig) ∉ ({Proc.devRef .tc z} : Finset (DevRef τ sig)) := by
    simp only [Finset.mem_singleton]; exact StableHlo.devRef_ne_of_ne hyz
  rw [StableHlo.held_sub_split _ hs]
  congr 1
  unfold StableHlo.held
  rw [SparseCore.bigSep_insert' hx, SparseCore.bigSep_insert' hy, bigSep_singleton]

/-- The rest does not feel the third's contents. -/
theorem held_rest (x y z : Ref sig .tc) (W : Valuation τ sig (Elt F)) (f) :
    (held (SparseCore.T d) (ucRefs τ sig \ {Proc.devRef .tc x, Proc.devRef .tc y, Proc.devRef .tc z}) (put W z f) : sProp 𝕄)
      = held (SparseCore.T d) (ucRefs τ sig \ {Proc.devRef .tc x, Proc.devRef .tc y, Proc.devRef .tc z}) W :=
  StableHlo.held_congr _ fun b hb => put_off _ _ fun e => (Finset.mem_sdiff.mp hb).2 (by rw [e]; simp)

end Cert.Proof.Sc

end
-- ==== Proof.Sc.Steps.lean ====
/-
  The steps of @main on the TensorCore, each from every array in HBM at some contents to every array at the next: a stretch
  of host operations, a gather call, an MLP call.
-/
module

public import proofs.«01_k».proof.Proof.Sc.Host

@[expose] public section

noncomputable section

namespace Cert.Proof.Sc

open Cert.KernelIdeal Cert.KernelIdeal.Gen
open Idealize.ShloMosaic Idealize.ShloMosaic.TcCoe
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.StableHlo (seq after held)
open Idealize.ShloMosaic.Pipeline (ucRefs)

variable {F : FTy → Type} [FloatOps F]

local notation "𝕄" => MT nD τ sig (HIx 2) (Elt F) ℕ UU ℕ

/-- Every array of device `d` in HBM, whole, at `W`. -/
abbrev hbm (d : Dev nD) (W : Valuation τ sig (Elt F)) : sProp 𝕄 := held (SparseCore.T d) (ucRefs τ sig) W

set_option backward.isDefEq.respectTransparency.types false in
/-- A stretch of host operations. -/
theorem host_step (d : Dev nD) (l : List (HloOp τ sig (Elt F))) (hl : l ∈ [ops1 (F := F), ops2, ops3, ops4, ops5]) (W : Valuation τ sig (Elt F))
    (Φ : PUnit → sProp 𝕄) :
    iprop(boundary (SparseCore.T d) ∗ hbm d W)
      ⊢ iprop(((boundary (SparseCore.T d) ∗ hbm d (after l W)) -∗ Φ ⟨⟩)
        -∗ wp frame (wpE ((K (F := F)).defs (D (F := F))) 𝒱 (SparseCore.T d) none) Set.univ (seq l) Φ) := by
  rw [show (seq (nD := nD) l : Prog (TpuEff nD τ sig (Elt F) (SparseCore.Sig (ΛP (F := F)) 2) .tc) PUnit) = (seq l >>= fun _ => pure ⟨⟩) from (bind_pure_unit).symm]
  iintro H Hk
  iapply (StableHlo.wp_seq 𝒱 none Set.univ d (ucRefs τ sig) _ l (subs l hl) (freshs l hl) W) $$ H
  iintro H
  simp only [wp_pure]
  imodintro
  iapply Hk; iexact H

/-- What the first gather takes and leaves, -/
theorem st0_eq (A : Args F) (d : Dev nD) : (bigSep Finset.univ fun c : Fin ((K (F := F)).nCore 0) => (P A).st 0 d c) = bigSep Finset.univ fun c : Fin 2 => core0 A d c (A.o0 d) :=
  cores_eq A 0 d _
/-- What the first call's cores hand back, core by core, -/
theorem dn0_eq (A : Args F) (d : Dev nD) : (bigSep Finset.univ fun c : Fin ((K (F := F)).nCore 0) => (P A).dn 0 d c) = bigSep Finset.univ fun c : Fin 2 => core0 A d c (gathered (A.tb d) (A.i0 d)) :=
  cores_eq A 0 d _
/-- and the second. -/
theorem st1_eq (A : Args F) (d : Dev nD) : (bigSep Finset.univ fun c : Fin ((K (F := F)).nCore 1) => (P A).st 1 d c) = bigSep Finset.univ fun c : Fin 2 => core1 A d c (A.o1 d) :=
  cores_eq A 1 d _
/-- and the second's. -/
theorem dn1_eq (A : Args F) (d : Dev nD) : (bigSep Finset.univ fun c : Fin ((K (F := F)).nCore 1) => (P A).dn 1 d c) = bigSep Finset.univ fun c : Fin 2 => core1 A d c (gathered (A.tb d) (A.i1 d)) :=
  cores_eq A 1 d _

variable (m : (ℓ : Loc nD τ sig) → Buf (Elt F) ℓ)

/-- The first gather's arrays are the TensorCore's, -/
theorem refs0 : ({Proc.devRef .tc main_v5, Proc.devRef .tc main_v4, Proc.devRef .tc main_v6} : Finset (DevRef τ sig)) ⊆ ucRefs τ sig := by decide
/-- and so are the second's. -/
theorem refs1 : ({Proc.devRef .tc main_v8, Proc.devRef .tc main_v4, Proc.devRef .tc main_v9} : Finset (DevRef τ sig)) ⊆ ucRefs τ sig := by decide

/-- All arrays before the first gather: what its tiles take, and the rest; -/
theorem before0 (d : Dev nD) : hbm d (V1 m d) = iprop((bigSep Finset.univ fun c : Fin 2 => core0 (args m) d c ((args m).o0 d))
    ∗ held (SparseCore.T d) (ucRefs τ sig \ {Proc.devRef .tc main_v5, Proc.devRef .tc main_v4, Proc.devRef .tc main_v6}) (V1 m d)) := by
  rw [← whole0]
  exact held_three d main_v5 main_v4 main_v6 (by decide) (by decide) (by decide) refs0 (V1 m d)
/-- after it. -/
theorem after0 (d : Dev nD) : hbm d (V2 m d) = iprop((bigSep Finset.univ fun c : Fin 2 => core0 (args m) d c (gathered ((args m).tb d) ((args m).i0 d)))
    ∗ held (SparseCore.T d) (ucRefs τ sig \ {Proc.devRef .tc main_v5, Proc.devRef .tc main_v4, Proc.devRef .tc main_v6}) (V1 m d)) := by
  rw [← whole0, ← held_rest d main_v5 main_v4 main_v6 (V1 m d) (gathered ((args m).tb d) ((args m).i0 d))]
  have h := held_three d main_v5 main_v4 main_v6 (by decide) (by decide) (by decide) refs0 (V2 m d)
  unfold V2 at h ⊢
  rw [put_self, put_ne _ _ (show main_v5 ≠ main_v6 by decide), put_ne _ _ (show main_v4 ≠ main_v6 by decide)] at h
  exact h
/-- All arrays before the second gather, -/
theorem before1 (d : Dev nD) : hbm d (V3 m d) = iprop((bigSep Finset.univ fun c : Fin 2 => core1 (args m) d c ((args m).o1 d))
    ∗ held (SparseCore.T d) (ucRefs τ sig \ {Proc.devRef .tc main_v8, Proc.devRef .tc main_v4, Proc.devRef .tc main_v9}) (V3 m d)) := by
  rw [← whole1]
  have h := held_three d main_v8 main_v4 main_v9 (by decide) (by decide) (by decide) refs1 (V3 m d)
  rw [V3_v4] at h
  exact h
/-- and after it. -/
theorem after1 (d : Dev nD) : hbm d (V4 m d) = iprop((bigSep Finset.univ fun c : Fin 2 => core1 (args m) d c (gathered ((args m).tb d) ((args m).i1 d)))
    ∗ held (SparseCore.T d) (ucRefs τ sig \ {Proc.devRef .tc main_v8, Proc.devRef .tc main_v4, Proc.devRef .tc main_v9}) (V3 m d)) := by
  rw [← whole1, ← held_rest d main_v8 main_v4 main_v9 (V3 m d) (gathered ((args m).tb d) ((args m).i1 d))]
  have h := held_three d main_v8 main_v4 main_v9 (by decide) (by decide) (by decide) refs1 (V4 m d)
  unfold V4 at h ⊢
  rw [put_self, put_ne _ _ (show main_v8 ≠ main_v9 by decide), put_ne _ _ (show main_v4 ≠ main_v9 by decide), V3_v4] at h
  exact h

/-- The first gather call. -/
theorem gather_step0 (κ : GSem nD τ sig → ℕ) (d : Dev nD) (Φ : PUnit → sProp 𝕄) :
    iprop((K (F := F)).ctx EH (P (args m)) κ ∗ (K (F := F)).tcSt EH d 0 ∗ hbm d (V1 m d))
      ⊢ iprop((((K (F := F)).tcSt EH d 1 ∗ hbm d (V2 m d)) -∗ Φ ⟨⟩)
        -∗ wp frame (wpE ((K (F := F)).defs (D (F := F))) 𝒱 (SparseCore.T d) none) Set.univ ((K (F := F)).run d 0) Φ) := by
  rw [before0, after0]
  iintro ⟨#Hctx, Hst, Hc, Hr⟩ Hk
  iapply ((K (F := F)).wp_run (D (F := F)) 𝒱 (EH := EH) (P := P (args m)) κ d 0) $$ [Hst Hc Hr Hk]
  isplitr; · iexact Hctx
  isplitl [Hst]; · iexact Hst
  isplitl [Hc]; · rw [st0_eq]; iexact Hc
  rw [dn0_eq]
  iintro ⟨Hst, Hc⟩
  iapply Hk
  isplitl [Hst]; · iexact Hst
  isplitl [Hc] <;> iassumption

/-- The second gather call. -/
theorem gather_step1 (κ : GSem nD τ sig → ℕ) (d : Dev nD) (Φ : PUnit → sProp 𝕄) :
    iprop((K (F := F)).ctx EH (P (args m)) κ ∗ (K (F := F)).tcSt EH d 1 ∗ hbm d (V3 m d))
      ⊢ iprop((((K (F := F)).tcSt EH d 2 ∗ hbm d (V4 m d)) -∗ Φ ⟨⟩)
        -∗ wp frame (wpE ((K (F := F)).defs (D (F := F))) 𝒱 (SparseCore.T d) none) Set.univ ((K (F := F)).run d 1) Φ) := by
  rw [before1, after1]
  iintro ⟨#Hctx, Hst, Hc, Hr⟩ Hk
  iapply ((K (F := F)).wp_run (D (F := F)) 𝒱 (EH := EH) (P := P (args m)) κ d 1) $$ [Hst Hc Hr Hk]
  isplitr; · iexact Hctx
  isplitl [Hst]; · iexact Hst
  isplitl [Hc]; · rw [st1_eq]; iexact Hc
  rw [dn1_eq]
  iintro ⟨Hst, Hc⟩
  iapply Hk
  isplitl [Hst]; · iexact Hst
  isplitl [Hc] <;> iassumption

/-- What an MLP call takes, -/
theorem seg_pre (p : Fin 2) (d : Dev nD) (W W' : Valuation τ sig (Elt F)) (hW' hoff) :
    (seg W p W' hW' hoff).pre d = iprop(unscopedBufs d (fun b => W b) ∗ idle (F := F) d) := by dsimp only [seg]
/-- and leaves. -/
theorem seg_post (p : Fin 2) (d : Dev nD) (W W' : Valuation τ sig (Elt F)) (hW' hoff) :
    (seg W p W' hW' hoff).post d = iprop(unscopedBufs d (fun b => W' b) ∗ idle (F := F) d) := by dsimp only [seg]

set_option backward.isDefEq.respectTransparency.types false in
/-- An MLP call. -/
theorem mlp_step [∀ e, Nonempty (Elt F e)] (p : Fin 2) (d : Dev nD) (W W' : Valuation τ sig (Elt F))
    (hW' : ∀ c w, (pdats W p c).arrAt w (Pipeline.pin (pcfgs (F := F)) adm p).N = W' (Pipeline.arrRef (cfgs p).spec w))
    (hoff : ∀ b : Ref sig .tc, b ∉ Finset.univ.image (Pipeline.arrRef (cfgs p).spec) → W' b = W b) (Φ : PUnit → sProp 𝕄) :
    iprop(levAts (K (F := F)).L (K (F := F)).lev ∗ boundary (SparseCore.T d) ∗ hbm d W ∗ idle (F := F) d
        ∗ Pipeline.cellsGhost (Pipeline.pin (pcfgs (F := F)) adm) EP p d ∗ Pipeline.toksInit (Pipeline.pin (pcfgs (F := F)) adm) EP p d)
      ⊢ iprop(((boundary (SparseCore.T d) ∗ hbm d W' ∗ idle (F := F) d) -∗ Φ ⟨⟩)
        -∗ wp frame (wpE ((K (F := F)).defs (D (F := F))) 𝒱 (SparseCore.T d) none) Set.univ
          (Prog.lift (.customCall (SparseCore.inner (Pipeline.entry p)) ())) Φ) := by
  iintro ⟨#Hlev, Hb, Hub, Hid, Hg, Ht⟩ Hk
  iapply ((K (F := F)).wp_liftProg (D (F := F)) 𝒱 (SparseCore.T d) Set.univ none (Prog.lift (.customCall (Pipeline.entry p) ())) Φ)
  iapply (Pipeline.RegionSeg.wp (pcfgs (F := F)) adm (pdats W) none cellOf_inj EP defs₀ 𝒱₀ (K (F := F)).L (K (F := F)).lev (seg W p W' hW' hoff) d none
    (fun u hu => nomatch hu) (fun _ => .ret ⟨⟩) Φ)
  isplitl [Hk]
  · rw [seg_post]
    iintro ⟨Hb, Hub, Hid⟩
    rw [wp_ret]; imodintro
    iapply Hk
    isplitl [Hb]; · iexact Hb
    isplitl [Hub]
    · iapply (Entails.of_eq (Pipeline.unscopedBufs_held d W')); iexact Hub
    iexact Hid
  isplitl [Hb]; · iexact Hb
  isplitl [Hub Hid]
  · rw [seg_pre]
    isplitl [Hub]
    · iapply (Entails.of_eq (Pipeline.unscopedBufs_held d W).symm); iexact Hub
    iexact Hid
  isplitr; · iexact Hlev
  isplitl [Hg] <;> iassumption

/-- After both gather calls the TensorCore owes nothing, and its state is that and what stays as it is. -/
theorem tcSt_idle (d : Dev nD) : ((K (F := F)).tcSt EH d 2 : sProp 𝕄) ⊢ iprop(idle (F := F) d ∗ (idle (F := F) d -∗ (K (F := F)).tcSt EH d 2)) := by
  unfold SparseCore.Cfg.tcSt idle
  rw [(K (F := F)).Otc_end d (le_refl 2)]
  iintro ⟨H, Hr⟩
  isplitl [H]; · iexact H
  iintro H
  isplitl [H]; · iexact H
  iexact Hr

end Cert.Proof.Sc

end
-- ==== Proof.Sc.Main.lean ====
/-
  @main from launch to end: the launch's ghost state, the TensorCore's program through its two gathers and two MLP calls,
  and the program's run with every array in HBM at its final contents.
-/
module

public import proofs.«01_k».proof.Proof.Sc.Steps

@[expose] public section

noncomputable section

namespace Cert.Proof.Sc

open Cert.KernelIdeal Cert.KernelIdeal.Gen
open Idealize.ShloMosaic Idealize.ShloMosaic.TcCoe
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic Idealize.ShloMosaic.Rounds
open Idealize.ShloMosaic.StableHlo (seq after held)
open Idealize.ShloMosaic.Pipeline (ucRefs)

variable {F : FTy → Type}

local notation "𝕄" => MT nD τ sig (HIx 2) (Elt F) ℕ UU ℕ

/-! ## The launch's ghost state -/

/-- The pipelines' cells and duties at launch. -/
def uP : UP := initOf (Pipeline.cells (Pipeline.pin (pcfgs (F := F)) adm) cellOf_inj) (Pipeline.launchToks (Pipeline.pin (pcfgs (F := F)) adm) cellOf_inj)

/-- The launch element: the handshakes' rounds, the pipelines' rounds, no transfer in flight. -/
def u₀ : UU := (initOf (K (F := F)).hsCells (K (F := F)).hsToks, (uP (F := F), 1))

/-- What a TensorCore is dealt at launch: both pipelines' cells and duties. -/
def dealt (d : Dev nD) : sProp 𝕄 :=
  iprop((bigSep Finset.univ fun p : Fin 2 => Pipeline.cellsGhost (Pipeline.pin (pcfgs (F := F)) adm) EP p d)
    ∗ bigSep Finset.univ fun p : Fin 2 => Pipeline.toksInit (Pipeline.pin (pcfgs (F := F)) adm) EP p d)

/-- The launch element is what the threads are dealt. -/
theorem hu₀ (A : Args F) : (ownU (u₀ (F := F)) : sProp 𝕄)
    ⊢ |={Set.univ}=> iprop(BI.own (EH (initOf (K (F := F)).hsCells (K (F := F)).hsToks)) ∗ (bigSep Finset.univ fun d : Dev nD => dealt (F := F) d)
        ∗ bigSep Finset.univ fun thr : Thread nD τ => bigSep Finset.univ fun q : Fin 2 => (P A).x q thr) := by
  unfold u₀
  iintro Hu
  ihave H := (ownU_pair (initOf (K (F := F)).hsCells (K (F := F)).hsToks) (uP (F := F), (1 : Counters))) $$ Hu
  icases H with ⟨HH, HR⟩
  ihave H := (own_pair_emb embR (uP (F := F)) (1 : Counters)) $$ HR
  icases H with ⟨HP, -⟩
  have hf : (BI.own (((Emb.inl : Emb UP (UP × Counters)).trans embR) (uP (F := F))) : sProp 𝕄) ⊢ _ :=
    Pipeline.fund_ghost (Pipeline.pin (pcfgs (F := F)) adm) (EP : Emb UP (MM F)) cellOf_inj
  ihave H := hf $$ HP
  imod H with ⟨Hg, Ht⟩
  imodintro
  isplitl [HH]; · iexact HH
  isplitl [Hg Ht]
  · unfold dealt
    rw [bigSep_sep']
    isplitl [Hg] <;> iassumption
  rw [show (bigSep Finset.univ fun thr : Thread nD τ => bigSep Finset.univ fun q : Fin 2 => (P A).x q thr) = (iprop(emp) : sProp 𝕄) from
    (bigSep_congr fun _ _ => bigSep_emp_const _).trans (bigSep_emp_const _)]
  iempintro

variable [FloatOps F]
variable (m : (ℓ : Loc nD τ sig) → Buf (Elt F) ℓ) (ρ : Dev nD → PrngReg)

/-- The two pipelines' parts. -/
theorem dealt_split (d : Dev nD) : (dealt (F := F) d : sProp 𝕄)
    = iprop((Pipeline.cellsGhost (Pipeline.pin (pcfgs (F := F)) adm) EP 0 d ∗ Pipeline.cellsGhost (Pipeline.pin (pcfgs (F := F)) adm) EP 1 d)
      ∗ Pipeline.toksInit (Pipeline.pin (pcfgs (F := F)) adm) EP 0 d ∗ Pipeline.toksInit (Pipeline.pin (pcfgs (F := F)) adm) EP 1 d) := by
  unfold dealt
  rw [bigSep_univ_eq_bigSepL [(0 : Fin 2), 1] (by decide) (by decide), bigSep_univ_eq_bigSepL [(0 : Fin 2), 1] (by decide) (by decide)]
  rfl

/-- @main on a TensorCore: from the launch's arrays to the last valuation. -/
theorem hmain [∀ e, Nonempty (Elt F e)] (κ : GSem nD τ sig → ℕ) (d : Dev nD) :
    iprop((K (F := F)).ctx EH (P (args m)) κ ∗ (K (F := F)).tcSt EH d 0 ∗ (K (F := F)).tcRes m ρ d ∗ dealt (F := F) d)
      ⊢ wp frame (wpE ((K (F := F)).defs (D (F := F))) 𝒱 (SparseCore.T d) none) Set.univ (main d)
          fun _ => iprop((K (F := F)).tcSt EH d 2 ∗ hbm d (V9 m d) ∗ (K (F := F)).tcEnd d) := by
  unfold SparseCore.Cfg.tcRes SparseCore.Cfg.tcEnd
  rw [main_eq, dealt_split]
  simp only [wp_bind]
  iintro ⟨#Hctx, Hst, ⟨Hb, Hub, Hts, -⟩, ⟨Hg0, Hg1⟩, Ht0, Ht1⟩
  ihave #Hlev := (SparseCore.Cfg.ctx_levAts κ) $$ Hctx
  ihave Hub := (Entails.of_eq (Pipeline.unscopedBufs_held d (fun b => m (d, b)))) $$ Hub
  iapply (host_step d ops1 (by simp) (fun b => m (d, b)) _) $$ [Hb Hub]
  · isplitl [Hb] <;> iassumption
  iintro ⟨Hb, Hub⟩
  iapply (gather_step0 m κ d _) $$ [Hst Hub]
  · isplitr; · iexact Hctx
    isplitl [Hst]; · iexact Hst
    iexact Hub
  iintro ⟨Hst, Hub⟩
  iapply (host_step d ops2 (by simp) (V2 m d) _) $$ [Hb Hub]
  · isplitl [Hb] <;> iassumption
  iintro ⟨Hb, Hub⟩
  iapply (gather_step1 m κ d _) $$ [Hst Hub]
  · isplitr; · iexact Hctx
    isplitl [Hst]; · iexact Hst
    iexact Hub
  iintro ⟨Hst, Hub⟩
  iapply (host_step d ops3 (by simp) (V4 m d) _) $$ [Hb Hub]
  · isplitl [Hb] <;> iassumption
  iintro ⟨Hb, Hub⟩
  ihave H := (tcSt_idle d) $$ Hst
  icases H with ⟨Hid, Hst⟩
  iapply (mlp_step 0 d (V5 m d) (V6 m d) (hW6 m d) (hoff6 m d) _) $$ [Hb Hub Hid Hg0 Ht0]
  · isplitr; · iexact Hlev
    isplitl [Hb]; · iexact Hb
    isplitl [Hub]; · iexact Hub
    isplitl [Hid]; · iexact Hid
    isplitl [Hg0] <;> iassumption
  iintro ⟨Hb, Hub, Hid⟩
  iapply (host_step d ops4 (by simp) (V6 m d) _) $$ [Hb Hub]
  · isplitl [Hb] <;> iassumption
  iintro ⟨Hb, Hub⟩
  iapply (mlp_step 1 d (V7 m d) (V8 m d) (hW8 m d) (hoff8 m d) _) $$ [Hb Hub Hid Hg1 Ht1]
  · isplitr; · iexact Hlev
    isplitl [Hb]; · iexact Hb
    isplitl [Hub]; · iexact Hub
    isplitl [Hid]; · iexact Hid
    isplitl [Hg1] <;> iassumption
  iintro ⟨Hb, Hub, Hid⟩
  iapply (host_step d ops5 (by simp) (V8 m d) _) $$ [Hb Hub]
  · isplitl [Hb] <;> iassumption
  iintro ⟨Hb, Hub⟩
  isplitl [Hst Hid]; · iapply Hst; iexact Hid
  isplitl [Hub]; · iexact Hub
  isplitl [Hb] <;> iassumption

/-! ## The end -/

/-- The final memory: every array in HBM at the last valuation. -/
def fq (d : Dev nD) (s' : Phys nD τ sig (Elt F)) : Prop := ∀ b ∈ ucRefs τ sig, s'.mem.mem (d, b) = V9 m d b

/-- From what the TensorCore ends with, the final memory is as claimed. -/
theorem hfin (d : Dev nD) (s' : Phys nD τ sig (Elt F)) : iprop(hbm d (V9 m d) ∗ SI s') ⊢ (⌜fq m d s'⌝ : sProp 𝕄) := by
  refine BI.Entails.trans ?_ (pure_forall (PROP := sProp 𝕄) (φ := fun b => b ∈ ucRefs τ sig → s'.mem.mem (d, b) = V9 m d b)).2
  refine forall_intro (PROP := sProp 𝕄) fun b => ?_
  by_cases hb : b ∈ ucRefs τ sig
  · have he : (hbm d (V9 m d) : sProp 𝕄) ⊢ ((d, b) ↦{fullShare} V9 m d b) :=
      bigSep_elim (Φ := fun b => ((SparseCore.T d).1, b) ↦{fullShare} V9 m d b) hb
    iintro ⟨H, HSI⟩
    ihave Hp := he $$ H
    ihave H := (SI_pointsTo_agree (st := s') (ℓ := (d, b)) (I := Finset.univ) (q := fullShare) (f := V9 m d b)) $$ [HSI Hp]
    · isplitl [HSI] <;> iassumption
    icases H with %h
    ipureintro; exact fun _ => funext fun i => h i (Finset.mem_univ i)
  · iintro -; ipureintro; exact fun h => absurd h hb

/-- What a run ends in: every array in HBM at the last valuation, every semaphore at zero. -/
def QC : PUnit × MemSt nD τ sig (Elt F) → Prop :=
  fun r => (∀ d : Dev nD, ∀ b ∈ ucRefs τ sig, r.2.mem (d, b) = V9 m d b) ∧ r.2.sem = fun _ => 0

/-- The program's run, from any memory whose words of both index lists name rows of the table. -/
theorem run_main [∀ e, Nonempty (Elt F e)] (hA : (args m).Ok) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (args m)) (A := ∅) facts v₀
    (fun q hq => match q with | 0 => nomatch hq | 1 => nomatch hq)
    (fun q _ => match q with | 0 => tileObl0 (args m) hA | 1 => tileObl1 (args m) hA)
    (fun q _ => SparseCore.Cfg.VecSplit.of_plain (vecSplit (args m) q))
    m ρ main (fun d => dealt (F := F) d) (fun d => hbm d (V9 m d)) (u₀ (F := F)) (sep_elim_left.trans (hu₀ (args m))) (hmain m ρ) (fq m) (hfin m) (QC m)
    (fun _ h hz => ⟨h, hz⟩)

end Cert.Proof.Sc

end
-- ==== Proof.Sc.Lists.lean ====
/-
  The two index lists in closed form, the table's rows in two halves, and the words' range from the precondition.
-/
module

public import proofs.«01_k».proof.Proof.Sc.Main
public import proofs.«01_k».proof.Proof.Gen.Pre_ids_in_table
public import Idealize.ShloMosaic.Lib.ReduceAll
public import Idealize.ShloMosaic.Lib.ValueIdxCore

@[expose] public section

noncomputable section

namespace Cert.Proof.Sc

open Cert.KernelIdeal Cert.KernelIdeal.Gen
open Idealize.ShloMosaic Idealize.ShloMosaic.TcCoe Idealize.ShloMosaic.ValueIdx
open Idealize.ShloMosaic.StableHlo (after)

variable {F : FTy → Type} [FloatOps F]

/-- The batch row and the position of the sequence that word `n` of the whole list is for: the list runs over 64 blocks of
    16 batch rows, in a block over the 50 positions, at a position over the block's rows. -/
def place (n : ℕ) (h : n < 51200) : S1024x50.Idx := ix2 ⟨n / 800 * 16 + n % 16, by omega⟩ ⟨n / 16 % 50, by omega⟩

/-- The whole list from the ids: transposed, blocked, flattened. -/
def flatIds (ids : S1024x50.Idx → BitVec 32) : S51200.Idx → BitVec 32 :=
  shapeCast S51200 (transpose S64x50x16 [1, 0, 2] (shapeCast S50x64x16 (transpose S50x1024 [1, 0] ids transposes_S1024x50_S50x1024_1_0)
    shapeCasts_S50x1024_S50x64x16) transposes_S50x64x16_S64x50x16_1_0_2) shapeCasts_S64x50x16_S51200

/-- Word `n` of the whole list is the id of its place. -/
theorem flatIds_apply (ids : S1024x50.Idx → BitVec 32) (n : Fin 51200) : flatIds ids (ix1 n) = ids (place n.val n.isLt) := by
  unfold flatIds
  have hn := n.isLt
  rw [shapeCast_apply _ _ _ (ix3 (n0 := 64) (n1 := 50) (n2 := 16) ⟨n.val / 800, by omega⟩ ⟨n.val / 16 % 50, by omega⟩ ⟨n.val % 16, by omega⟩)
      (by rw [Shape.rowMajor_val_three, Shape.rowMajor_val_one]
          show ((n.val / 800) * 50 + n.val / 16 % 50) * 16 + n.val % 16 = n.val
          omega)]
  rw [transpose_apply _ _ _ _ (ix3 (n0 := 50) (n1 := 64) (n2 := 16) ⟨n.val / 16 % 50, by omega⟩ ⟨n.val / 800, by omega⟩ ⟨n.val % 16, by omega⟩)
      (fun b => match b with | ⟨0, _⟩ => rfl | ⟨1, _⟩ => rfl | ⟨2, _⟩ => rfl)]
  rw [shapeCast_apply _ _ _ (ix2 (n0 := 50) (n1 := 1024) ⟨n.val / 16 % 50, by omega⟩ ⟨n.val / 800 * 16 + n.val % 16, by omega⟩)
      (by rw [Shape.rowMajor_val_three, Shape.rowMajor_val_two]
          show (n.val / 16 % 50) * 1024 + (n.val / 800 * 16 + n.val % 16) = ((n.val / 16 % 50) * 64 + n.val / 800) * 16 + n.val % 16
          omega)]
  rw [transpose_apply _ _ _ _ (place n.val hn) (fun b => match b with | ⟨0, _⟩ => rfl | ⟨1, _⟩ => rfl)]

variable (m : (ℓ : Loc nD τ sig) → Buf (Elt F) ℓ) (d : Dev nD)

/-- The ids as launched, -/
abbrev idsOf : S1024x50.Idx → BitVec 32 := m (d, Proc.devRef .tc main_arg0)
/-- and the table. -/
abbrev tabOf : S500x256.Idx → Elt F .f32 := m (d, Proc.devRef .tc main_arg1)

/-- The flattened ids after the first host steps, -/
theorem V1_v3 : V1 m d (Proc.devRef .tc main_v3) = flatIds (idsOf m d) := by
  unfold V1 ops1
  after_results_simp
  rfl

/-- their first half, -/
theorem V1_v5 : V1 m d (Proc.devRef .tc main_v5) = extractStridedSlice S25600 ![0] (flatIds (idsOf m d)) slices_S51200_S25600_0 := by
  unfold V1 ops1
  after_results_simp
  rfl

/-- the table in rows of [2, 128], -/
theorem V1_v4 : V1 m d (Proc.devRef .tc main_v4) = shapeCast S500x2x128 (tabOf m d) shapeCasts_S500x256_S500x2x128 := by
  unfold V1 ops1
  after_results_simp
  rfl

/-- and the ids' second half. -/
theorem V3_v8 : V3 m d (Proc.devRef .tc main_v8) = extractStridedSlice S25600 ![25600] (flatIds (idsOf m d)) slices_S51200_S25600_25600 := by
  have h : V2 m d (Proc.devRef .tc main_v3) = flatIds (idsOf m d) := by
    unfold V2
    rw [put_ne _ _ (by decide)]
    exact V1_v3 m d
  rw [← h]
  unfold V3 ops2
  after_results_simp

/-- The first gather's words, -/
theorem list0_apply (n : Fin 25600) : (args m).i0 d (ix1 n) = idsOf m d (place n.val (by omega)) := by
  show V1 m d (Proc.devRef .tc main_v5) (ix1 n) = _
  rw [V1_v5, extractStridedSlice_apply _ _ _ _ (ix1 (n := 51200) ⟨n.val, by omega⟩)
    (fun a => match a with | ⟨0, _⟩ => (Nat.zero_add _).symm)]
  exact flatIds_apply _ _

/-- and the second's. -/
theorem list1_apply (n : Fin 25600) : (args m).i1 d (ix1 n) = idsOf m d (place (25600 + n.val) (by omega)) := by
  show V3 m d (Proc.devRef .tc main_v8) (ix1 n) = _
  rw [V3_v8, extractStridedSlice_apply _ _ _ _ (ix1 (n := 51200) ⟨25600 + n.val, by omega⟩)
    (fun a => match a with | ⟨0, _⟩ => rfl)]
  exact flatIds_apply _ _

/-! ## The precondition -/

/-- The conjunction of two truth bits is their conjunction's bit. -/
theorem andi_bit (a b : Bool) : IntOp.andi (BitVec.ofBool a) (BitVec.ofBool b) = BitVec.ofBool (a && b) := by cases a <;> cases b <;> decide
/-- A truth bit is 1 where the truth holds. -/
theorem bit_one (a : Bool) : BitVec.ofBool a = 1#1 ↔ a = true := by cases a <;> decide

/-- Under the precondition every id is below 500. -/
theorem word_lt (ids : S1024x50.Idx → BitVec 32)
    (x1 : Vec F S500x256 .f32) (x2 : Vec F S256x1024 .f32) (x3 : Vec F S1024 .f32) (x4 : Vec F S1024x2048 .f32) (x5 x6 x7 : Vec F S2048 .f32)
    (h : Cert.Pre_ids_in_table.fn (F := F) ids x1 x2 x3 x4 x5 x6 x7 = fun _ => 1#1) (i : S1024x50.Idx) : (ids i).toNat < 500 := by
  have hs : Subsingleton Cert.Pre_ids_in_table.S_.Idx := ⟨fun a b => funext fun k => k.elim0⟩
  have e := Host.reduce_andi_all _ _ _ _ ix0 (congrFun h ix0) i
  replace e : IntOp.andi (IntOp.cmpi .sge (ids i) 0#32) (IntOp.cmpi .slt (ids i) 500#32) = 1#1 := e
  simp only [IntOp.cmpi, andi_bit, bit_one, Bool.and_eq_true, BitVec.sle_eq_decide, BitVec.slt_eq_decide, decide_eq_true_eq,
    BitVec.toInt_eq_toNat_cond, BitVec.toNat_ofNat, Nat.reducePow, Nat.reduceMod] at e
  omega

/-- Where every id is below 500, both gathers' words are. -/
theorem args_ok (h : ∀ d i, (idsOf m d i).toNat < 500) : (args m).Ok := by
  refine ⟨fun d j => ?_, fun d j => ?_⟩
  · rw [eq_ix1 j]; exact (list0_apply m d _).symm ▸ h d _
  · rw [eq_ix1 j]; exact (list1_apply m d _).symm ▸ h d _

end Cert.Proof.Sc
-- ==== Proof.Sc.SameProgram.lean ====
/-
  The kernel as printed for the machine's floats and as printed for the extended reals is one program: the two texts are
  equal at every float instance.
-/
module

public import proofs.«01_k».proof.Proof.Gen.Kernel
public import proofs.«01_k».proof.Proof.Gen.KernelIdeal

@[expose] public section

noncomputable section

namespace Cert.Proof.Sc

open Idealize.ShloMosaic

variable {F : FTy → Type} [FloatOps F]

set_option synthInstance.maxHeartbeats 2000000 in
set_option maxHeartbeats 20000000 in
/-- The bodies of the two programs are equal, one by one. -/
theorem kernel_bodies_eq : Cert.Kernel.defs₀ (F := F) = Cert.KernelIdeal.defs₀ (F := F) := by
  funext p l a
  rcases p with _ | _ | ⟨c, s⟩
  · rcases l with ⟨_ | _ | _ | _ | l, hl⟩
    · rfl
    · rfl
    · rfl
    · rfl
    · exact absurd hl (by omega)
  · rfl
  · rcases l with ⟨_ | _ | _ | _ | l, hl⟩
    · rfl
    · rfl
    · rfl
    · rfl
    · exact absurd hl (by omega)

/-- So are the two programs' definitions: the bodies under the same pipelines and the same SparseCore calls. -/
theorem kernel_defs_eq : Cert.Kernel.defs (F := F) = Cert.KernelIdeal.defs (F := F) := by
  have h : Cert.Kernel.defs (F := F) = Cert.KernelIdeal.sc.defs (Pipeline.defs Cert.KernelIdeal.pcfgs (Cert.Kernel.defs₀ (F := F))) := rfl
  rw [h, kernel_bodies_eq]
  rfl

/-- And what each thread runs. -/
theorem kernel_threads_eq : Cert.Kernel.threads (F := F) = Cert.KernelIdeal.threads (F := F) := rfl

end Cert.Proof.Sc
-- ==== Proof.Sc.Frames.lean ====
/-
  The frames: both kernels run, leave their arguments as they were and every counter at zero, where every id is below 500;
  the reference does from any memory.
-/
module

public import proofs.«01_k».proof.Defs
public import proofs.«01_k».proof.Proof.Sc.Lists
public import proofs.«01_k».proof.Proof.Sc.SameProgram
public import proofs.«01_k».proof.Proof.Gen.ReferenceIdeal.Run
public import Idealize.ShloMosaic.Lib.Quiescent

@[expose] public section

noncomputable section

namespace Cert.Proof.Sc

open Idealize.ShloMosaic Idealize.ShloMosaic.TcCoe Idealize.SL.Sem

/-- A TensorCore array that no step writes is at the end what it was at launch. -/
theorem kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : QC m r) (d : Dev Cert.KernelIdeal.nD)
    (b : Ref Cert.KernelIdeal.sig .tc) (hb : Proc.devRef .tc b ∈ Pipeline.ucRefs Cert.KernelIdeal.τ Cert.KernelIdeal.sig)
    (hn : b ∉ [Cert.KernelIdeal.main_v0, Cert.KernelIdeal.main_v1, Cert.KernelIdeal.main_v2, Cert.KernelIdeal.main_v3, Cert.KernelIdeal.main_v4,
      Cert.KernelIdeal.main_v5, Cert.KernelIdeal.main_v6, Cert.KernelIdeal.main_v7, Cert.KernelIdeal.main_v8, Cert.KernelIdeal.main_v9,
      Cert.KernelIdeal.main_v10, Cert.KernelIdeal.main_v11, Cert.KernelIdeal.main_v12, Cert.KernelIdeal.main_v13, Cert.KernelIdeal.main_v14,
      Cert.KernelIdeal.main_v15, Cert.KernelIdeal.main_v16, Cert.KernelIdeal.main_v17]) :
    r.2.mem ((d.tc : Thread Cert.KernelIdeal.nD Cert.KernelIdeal.τ).loc b) = m ((d.tc : Thread Cert.KernelIdeal.nD Cert.KernelIdeal.τ).loc b) :=
  (h.1 d _ hb).trans (V9_kept m d b hn)

/-- The same run, of the kernel as it is printed for the machine's floats. -/
theorem run_kernel (m : (ℓ : Loc Cert.KernelIdeal.nD Cert.KernelIdeal.τ Cert.KernelIdeal.sig) → Buf (Elt Bits) ℓ)
    (ρ : Dev Cert.KernelIdeal.nD → PrngReg) (hA : (args m).Ok) :
    θ_run (Cert.Kernel.defs (F := Bits)) Cert.Kernel.threads ⟨m, fun _ => 0, ρ⟩ (QC m) := by
  rw [kernel_defs_eq, kernel_threads_eq]
  exact run_main (F := Bits) m ρ hA

/-- The kernel's frame at the machine's floats. -/
theorem frame_kernel : Cert.quiescent_Kernel (hKernel := Cert.Kernel.Gen.facts) (hPre_ids_in_table := Cert.Pre_ids_in_table.Gen.facts) :=
  fun m g hpre => (θ_run (Cert.Kernel.defs (F := Bits)) _ _).mono
    (fun _ h => ⟨fun d => ⟨kept h d _ (by decide) (by decide), kept h d _ (by decide) (by decide), kept h d _ (by decide) (by decide),
      kept h d _ (by decide) (by decide), kept h d _ (by decide) (by decide), kept h d _ (by decide) (by decide), kept h d _ (by decide) (by decide),
      kept h d _ (by decide) (by decide)⟩, h.2⟩)
    (run_kernel m g (args_ok m fun d i => word_lt (F := Bits) _ _ _ _ _ _ _ _ (hpre d) i))

/-- The kernel's frame at the ideal instance. -/
theorem frame_kernelIdeal : Cert.quiescent_KernelIdeal (hKernelIdeal := Cert.KernelIdeal.Gen.facts) (hPre_ids_in_table := Cert.Pre_ids_in_table.Gen.facts) :=
  fun m g hpre => (θ_run (Cert.KernelIdeal.defs (F := Ideal)) _ _).mono
    (fun _ h => ⟨fun d => ⟨kept h d _ (by decide) (by decide), kept h d _ (by decide) (by decide), kept h d _ (by decide) (by decide),
      kept h d _ (by decide) (by decide), kept h d _ (by decide) (by decide), kept h d _ (by decide) (by decide), kept h d _ (by decide) (by decide),
      kept h d _ (by decide) (by decide)⟩, h.2⟩)
    (run_main (F := Ideal) m g (args_ok m fun d i => word_lt (F := Ideal) _ _ _ _ _ _ _ _ (hpre d) i))

/-- The reference's frame. -/
theorem frame_referenceIdeal : Cert.quiescent_ReferenceIdeal (hReferenceIdeal := Cert.ReferenceIdeal.Gen.facts) :=
  fun m g _ => (θ_run (Cert.ReferenceIdeal.defs (F := Ideal)) _ _).mono
    (fun r h => ⟨fun d => (h d).2, sem_eq_zero_of_no_sems (by decide) r.2⟩)
    (Cert.ReferenceIdeal.Value.run (F := Ideal) m g)

end Cert.Proof.Sc
-- ==== Proof.Sc.Row.lean ====
/-
  One row of the perceptron with layer normalisation, as a function of the row over the extended reals, and the kernel's
  payload on a block read as that function of the block's rows.
-/
module

public import proofs.«01_k».proof.Proof.Gen.KernelIdeal.Skeleton
public import Idealize.ShloMosaic.PureOps.Ideal
public import Idealize.ShloMosaic.PureOps.Ideal.Laws
public import Idealize.ShloMosaic.Lib.Pointwise

@[expose] public section

noncomputable section

namespace Cert.Proof.Sc

open Cert.KernelIdeal Cert.KernelIdeal.Gen
open Idealize.ShloMosaic
open scoped BigOperators

/-- The hidden layer's column `k`: the row times the first weights plus the bias, through the Gaussian unit. -/
def hidden (x : Fin 256 → EReal) (w : Fin 256 → Fin 1024 → EReal) (b : Fin 1024 → EReal) (k : Fin 1024) : EReal :=
  Ideal.ofBits .f32 0x3F000000#32 * (∑ i, x i * w i k + b k)
    * (Ideal.ofBits .f32 0x3F800000#32 + Ideal.erf ((∑ i, x i * w i k + b k) * Ideal.ofBits .f32 0x3F3504F3#32))

/-- The second layer's column `n`. -/
def project (h : Fin 1024 → EReal) (w : Fin 1024 → Fin 2048 → EReal) (b : Fin 2048 → EReal) (n : Fin 2048) : EReal :=
  ∑ k, h k * w k n + b n

/-- The mean of 2048 values. -/
def mean (y : Fin 2048 → EReal) : EReal := Ideal.div (∑ n, y n) (Ideal.ofBits .f32 0x45000000#32)

/-- The values less their mean, over the root of their variance plus a small constant. -/
def norm (y : Fin 2048 → EReal) (n : Fin 2048) : EReal :=
  (y n - mean y) * Ideal.rsqrt (mean (fun n => (y n - mean y) * (y n - mean y)) + Ideal.ofBits .f32 0x3727C5AC#32)

/-- A row's result: both layers, the normalisation, its scale and its shift. -/
def rowOut (x : Fin 256 → EReal) (w1 : Fin 256 → Fin 1024 → EReal) (b1 : Fin 1024 → EReal) (w2 : Fin 1024 → Fin 2048 → EReal)
    (b2 g bt : Fin 2048 → EReal) (n : Fin 2048) : EReal :=
  norm (project (hidden x w1 b1) w2 b2) n * g n + bt n

/-- The kernel's payload before the scale, at row `r` and column `n`. -/
theorem pay2_apply (v0 : Vec Ideal S800x256 .f32) (v2 : Vec Ideal S256x1024 .f32) (v4 : Vec Ideal S1x1024 .f32)
    (v16 : Vec Ideal S1024x2048 .f32) (v18 : Vec Ideal S1x2048 .f32) (r : Fin 800) (n : Fin 2048) :
    k2_pay2 v0 v2 v4 v16 v18 (ix2 r n)
      = norm (project (hidden (fun i => v0 (ix2 r i)) (fun i k => v2 (ix2 i k)) fun k => v4 (ix2 0 k)) (fun k n => v16 (ix2 k n)) fun n => v18 (ix2 0 n)) n := by
  pointwise [k2_pay2, norm, mean, project, hidden]
  simp only [Ideal.erf_def]

/-- The kernel's payload at row `16 q + u` of its block, which it stores at `(q, u)`. -/
theorem pay_apply (v0 : Vec Ideal S800x256 .f32) (v2 : Vec Ideal S256x1024 .f32) (v4 : Vec Ideal S1x1024 .f32)
    (v16 : Vec Ideal S1024x2048 .f32) (v18 v38 v41 : Vec Ideal S1x2048 .f32) (q : Fin 50) (u : Fin 16) (n : Fin 2048) :
    k2_pay1 (k2_pay2 v0 v2 v4 v16 v18) v38 v41 (ix3 q u n)
      = rowOut (fun i => v0 (ix2 ⟨q.val * 16 + u.val, by omega⟩ i)) (fun i k => v2 (ix2 i k)) (fun k => v4 (ix2 0 k))
          (fun k n => v16 (ix2 k n)) (fun n => v18 (ix2 0 n)) (fun n => v38 (ix2 0 n)) (fun n => v41 (ix2 0 n)) n := by
  unfold rowOut
  rw [← pay2_apply]
  generalize k2_pay2 v0 v2 v4 v16 v18 = y
  pointwise [k2_pay1]

end Cert.Proof.Sc
-- ==== Proof.Sc.BlockValue.lean ====
/-
  The two arrays the TensorCore calls leave, index by index: a row of the result is `rowOut` of a row of the call's input.
-/
module

public import proofs.«01_k».proof.Proof.Sc.Row
public import proofs.«01_k».proof.Proof.Sc.Host
public import Idealize.ShloMosaic.Lib.Pipeline.ValueKit

@[expose] public section

noncomputable section

namespace Cert.Proof.Sc

open Cert.KernelIdeal Cert.KernelIdeal.Gen
open Idealize.ShloMosaic Idealize.ShloMosaic.TcCoe
open Idealize.ShloMosaic.Pipeline (Dat Cfg Window)

/-- Point `t` of call 2 takes the `t`-th block of rows and leaves the `t`-th block of columns; the rest it takes whole. -/
theorem index2 : ∀ t : Fin cfg2.N, win2_0.index t = ![t.val, 0] ∧ win2_1.index t = ![0, 0] ∧ win2_2.index t = ![0, 0] ∧ win2_3.index t = ![0, 0]
    ∧ win2_4.index t = ![0, 0] ∧ win2_5.index t = ![0, 0] ∧ win2_6.index t = ![0, 0] ∧ win2_7.index t = ![0, t.val, 0] := by decide +kernel

/-- Point `t` of call 3 does the same, its block of columns 32 further on. -/
theorem index3 : ∀ t : Fin cfg3.N, win3_0.index t = ![t.val, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, t.val + 32, 0] := by decide +kernel

/-- What the body leaves at `(q, u, n)` of its block. -/
theorem mlpOut_apply (x0 : Vec Ideal S800x256 .f32) (x1 : Vec Ideal S256x1024 .f32) (x2 : Vec Ideal S1x1024 .f32)
    (x3 : Vec Ideal S1024x2048 .f32) (x4 x5 x6 : Vec Ideal S1x2048 .f32) (q : Fin 50) (u : Fin 16) (n : Fin 2048) :
    mlpOut x0 x1 x2 x3 x4 x5 x6 (ix3 q u n)
      = rowOut (fun i => x0 (ix2 ⟨q.val * 16 + u.val, by omega⟩ i)) (fun i k => x1 (ix2 i k)) (fun k => x2 (ix2 0 k))
          (fun k n => x3 (ix2 k n)) (fun n => x4 (ix2 0 n)) (fun n => x5 (ix2 0 n)) (fun n => x6 (ix2 0 n)) n := by
  rw [← pay_apply]
  unfold mlpOut
  frame_out

/-- The rows of the two calls' inputs that the result's index `(s, b, n)` comes from. -/
def inRow (s : Fin 50) (b : Fin 512) : Fin 25600 := ⟨b.val / 16 * 800 + s.val * 16 + b.val % 16, by omega⟩

variable (W : Valuation τ sig (Elt Ideal))

/-- The result at `(s, b, n)` from the input's rows `x` and the layers' parameters as `W` holds them. -/
def fromRow (x : S25600x256.Idx → EReal) (s : Fin 50) (b : Fin 512) (n : Fin 2048) : EReal :=
  rowOut (fun i => x (ix2 (inRow s b) i)) (fun i k => W main_arg2 (ix2 i k)) (fun k => W main_v11 (ix2 0 k))
    (fun k n => W main_arg4 (ix2 k n)) (fun n => W main_v12 (ix2 0 n)) (fun n => W main_v13 (ix2 0 n)) (fun n => W main_v14 (ix2 0 n)) n

/-- What the body leaves of block `t` of call 2. -/
theorem out2_apply (t : Fin cfg2.N) (q : Fin 50) (u : Fin 16) (n : Fin 2048) :
    out2 (fun _ b => W b) 0 t (ix3 q u n) = fromRow W (W main_v7) q ⟨t.val * 16 + u.val, by have : t.val < 32 := t.isLt; omega⟩ n := by
  have hr : inRow q ⟨t.val * 16 + u.val, by have : t.val < 32 := t.isLt; omega⟩ = ⟨t.val * 800 + (q.val * 16 + u.val), by have : t.val < 32 := t.isLt; omega⟩ := by
    unfold inRow; ext; dsimp only; omega
  unfold out2 fromRow
  rw [mlpOut_apply, hr]
  obtain ⟨h0, h1, h2, h3, h4, h5, h6, -⟩ := index2 t
  congr 1
  · funext i; blk_ext [blk2, h0]
  · funext i k; blk_ext [blk2, h1]
  · funext k; blk_ext [blk2, h2]
  · funext k n; blk_ext [blk2, h3]
  · funext n; blk_ext [blk2, h4]
  · funext n; blk_ext [blk2, h5]
  · funext n; blk_ext [blk2, h6]

/-- Where block `t` of call 2's result lies in the array. -/
theorem emb2 (t : Fin cfg2.N) (q : Fin 50) (u : Fin 16) (n : Fin 2048) :
    ((cfg2.win 7).blk t).view.emb (ix3 q u n) = ix3 q ⟨t.val * 16 + u.val, by have : t.val < 32 := t.isLt; omega⟩ n := by
  obtain ⟨-, -, -, -, -, -, -, h7⟩ := index2 t
  blk_ext [h7]

/-- The first half of the result's second axis from `x`'s rows, the second half as in `z`. -/
def half1 (x : S25600x256.Idx → EReal) (z : S50x1024x2048.Idx → EReal) (i : S50x1024x2048.Idx) : EReal :=
  if h : (i 1).val < 512 then fromRow W x (i 0) ⟨(i 1).val, h⟩ (i 2) else z i

/-- Below 512 the first call writes the batch row: its entry is the first half's. -/
theorem half1_lt (x : S25600x256.Idx → EReal) (z : S50x1024x2048.Idx → EReal) (q : Fin 50) (b : Fin 1024) (n : Fin 2048) (h : b.val < 512) :
    half1 W x z (ix3 q b n) = fromRow W x q ⟨b.val, h⟩ n := by
  unfold half1; rw [dif_pos (by exact h)]; rfl

/-- From 512 on the first call leaves the array as it was. -/
theorem half1_ge (x : S25600x256.Idx → EReal) (z : S50x1024x2048.Idx → EReal) (i : S50x1024x2048.Idx) (h : ¬ (i 1).val < 512) :
    half1 W x z i = z i := by
  unfold half1; rw [dif_neg h]

set_option maxHeartbeats 2000000 in
/-- The array after call 2. -/
theorem arr2_eq : arr2 W = half1 W (W main_v7) (W main_v15) := by
  unfold arr2
  refine (dat2 (fun _ b => W b) 0).arrAt_eq_of_coversWhere_of_agree 7 (half1 W (W main_v7) (W main_v15)) (fun β => β 1 < 32) (by decide +kernel)
    (fun t _ y => ?_) (fun j hj => ?_)
  · obtain ⟨q, u, n, rfl⟩ : ∃ (q : Fin 50) (u : Fin 16) (n : Fin 2048), y = ix3 q u n := ⟨y 0, y 1, y 2, eq_ix3 y⟩
    refine Eq.trans ?_ (congrArg (half1 W (W main_v7) (W main_v15)) (emb2 t q u n)).symm
    blk_simp
    rw [after2_7, out2_apply]
    have hb : t.val * 16 + u.val < 512 := by have : t.val < 32 := t.isLt; have := u.isLt; omega
    exact (half1_lt W (W main_v7) (W main_v15) q ⟨t.val * 16 + u.val, by omega⟩ n hb).symm
  · blk_simp [Pipeline.Window.cell_apply] at hj
    rw [dat2_A]
    exact (half1_ge W (W main_v7) (W main_v15) j (by omega)).symm

/-- What the body leaves of block `t` of call 3. -/
theorem out3_apply (t : Fin cfg3.N) (q : Fin 50) (u : Fin 16) (n : Fin 2048) :
    out3 (fun _ b => W b) 0 t (ix3 q u n) = fromRow W (W main_v10) q ⟨t.val * 16 + u.val, by have : t.val < 32 := t.isLt; omega⟩ n := by
  have hr : inRow q ⟨t.val * 16 + u.val, by have : t.val < 32 := t.isLt; omega⟩ = ⟨t.val * 800 + (q.val * 16 + u.val), by have : t.val < 32 := t.isLt; omega⟩ := by
    unfold inRow; ext; dsimp only; omega
  unfold out3 fromRow
  rw [mlpOut_apply, hr]
  obtain ⟨h0, h1, h2, h3, h4, h5, h6, -⟩ := index3 t
  congr 1
  · funext i; blk_ext [blk3, h0]
  · funext i k; blk_ext [blk3, h1]
  · funext k; blk_ext [blk3, h2]
  · funext k n; blk_ext [blk3, h3]
  · funext n; blk_ext [blk3, h4]
  · funext n; blk_ext [blk3, h5]
  · funext n; blk_ext [blk3, h6]

/-- Where block `t` of call 3's result lies in the array. -/
theorem emb3 (t : Fin cfg3.N) (q : Fin 50) (u : Fin 16) (n : Fin 2048) :
    ((cfg3.win 7).blk t).view.emb (ix3 q u n) = ix3 q ⟨512 + (t.val * 16 + u.val), by have : t.val < 32 := t.isLt; omega⟩ n := by
  obtain ⟨-, -, -, -, -, -, -, h7⟩ := index3 t
  blk_ext [h7]

/-- The second half of the result's second axis from `x`'s rows, the first half as in `z`. -/
def half2 (x : S25600x256.Idx → EReal) (z : S50x1024x2048.Idx → EReal) (i : S50x1024x2048.Idx) : EReal :=
  if (i 1).val < 512 then z i else fromRow W x (i 0) ⟨(i 1).val - 512, by have : (i 1).val < 1024 := (i 1).isLt; omega⟩ (i 2)

/-- From 512 on the second call writes the batch row: its entry is the second half's. -/
theorem half2_ge (x : S25600x256.Idx → EReal) (z : S50x1024x2048.Idx → EReal) (q : Fin 50) (b : Fin 512) (n : Fin 2048) :
    half2 W x z (ix3 q ⟨512 + b.val, by omega⟩ n) = fromRow W x q b n := by
  have h : ¬ 512 + b.val < 512 := by omega
  unfold half2
  exact (if_neg h).trans (congrArg (fun b => fromRow W x q b n) (Fin.ext (Nat.add_sub_cancel_left 512 b.val)))

/-- Below 512 the second call leaves what the first one wrote. -/
theorem half2_lt (x : S25600x256.Idx → EReal) (z : S50x1024x2048.Idx → EReal) (i : S50x1024x2048.Idx) (h : (i 1).val < 512) :
    half2 W x z i = z i := by
  unfold half2; rw [if_pos h]

set_option maxHeartbeats 2000000 in
/-- The array after call 3. -/
theorem arr3_eq : arr3 W = half2 W (W main_v10) (W main_v16) := by
  unfold arr3
  refine (dat3 (fun _ b => W b) 0).arrAt_eq_of_coversWhere_of_agree 7 (half2 W (W main_v10) (W main_v16)) (fun β => 32 ≤ β 1) (by decide +kernel)
    (fun t _ y => ?_) (fun j hj => ?_)
  · obtain ⟨q, u, n, rfl⟩ : ∃ (q : Fin 50) (u : Fin 16) (n : Fin 2048), y = ix3 q u n := ⟨y 0, y 1, y 2, eq_ix3 y⟩
    refine Eq.trans ?_ (congrArg (half2 W (W main_v10) (W main_v16)) (emb3 t q u n)).symm
    blk_simp
    rw [after3_7, out3_apply]
    have hb : t.val * 16 + u.val < 512 := by have : t.val < 32 := t.isLt; have := u.isLt; omega
    exact (half2_ge W (W main_v10) (W main_v16) q ⟨t.val * 16 + u.val, hb⟩ n).symm
  · blk_simp [Pipeline.Window.cell_apply] at hj
    rw [dat3_A]
    exact (half2_lt W (W main_v10) (W main_v16) j (by omega)).symm

end Cert.Proof.Sc
-- ==== Proof.Sc.Inputs.lean ====
/-
  What the two TensorCore calls find in their arrays: the gathered rows of the table, and the layers' parameters as launched.
-/
module

public import proofs.«01_k».proof.Proof.Sc.BlockValue
public import proofs.«01_k».proof.Proof.Sc.Lists

@[expose] public section

noncomputable section

namespace Cert.Proof.Sc

open Cert.KernelIdeal Cert.KernelIdeal.Gen
open Idealize.ShloMosaic Idealize.ShloMosaic.TcCoe
open Idealize.ShloMosaic.StableHlo (after)

variable {F : FTy → Type} [FloatOps F] (m : (ℓ : Loc nD τ sig) → Buf (Elt F) ℓ) (d : Dev nD)

/-- What no step up to the second gather writes is after it as launched. -/
theorem V4_kept (r : Ref sig .tc) (h : r ∉ [main_v0, main_v1, main_v2, main_v3, main_v4, main_v5, main_v6, main_v7, main_v8, main_v9]) :
    V4 m d (Proc.devRef .tc r) = m (d, Proc.devRef .tc r) := by
  simp only [List.mem_cons, List.not_mem_nil, or_false, not_or] at h
  obtain ⟨h0, h1, h2, h3, h4, h5, h6, h7, h8, h9⟩ := h
  unfold V4 V3 V2 V1
  simp only [StableHlo.after_cons, StableHlo.after_nil]
  rw [put_ne _ _ h9, StableHlo.unary_result_ne _ _ _ _ _ _ h8, StableHlo.reshape_result_ne _ _ _ _ _ _ _ h7, put_ne _ _ h6,
    StableHlo.unary_result_ne _ _ _ _ _ _ h5, StableHlo.reshape_result_ne _ _ _ _ _ _ _ h4, StableHlo.reshape_result_ne _ _ _ _ _ _ _ h3,
    StableHlo.unary_result_ne _ _ _ _ _ _ h2, StableHlo.reshape_result_ne _ _ _ _ _ _ _ h1, StableHlo.unary_result_ne _ _ _ _ _ _ h0]

/-- The first call's input: the first gather's rows, each whole. -/
theorem V5_v7 : V5 m d (Proc.devRef .tc main_v7)
    = shapeCast S25600x256 (gathered (V1 m d (Proc.devRef .tc main_v4)) (V1 m d (Proc.devRef .tc main_v5))) shapeCasts_S25600x2x128_S25600x256 := by
  have h2 : V2 m d (Proc.devRef .tc main_v6) = gathered (V1 m d (Proc.devRef .tc main_v4)) (V1 m d (Proc.devRef .tc main_v5)) := by
    unfold V2; rw [put_self]
  rw [← h2]
  unfold V5 V4 V3
  after_results_simp
  rw [put_ne _ _ (by decide)]
  after_results_simp
  rfl

/-- The second call's input: the second gather's. -/
theorem V5_v10 : V5 m d (Proc.devRef .tc main_v10)
    = shapeCast S25600x256 (gathered (V1 m d (Proc.devRef .tc main_v4)) (V3 m d (Proc.devRef .tc main_v8))) shapeCasts_S25600x2x128_S25600x256 := by
  unfold V5 V4
  after_results_simp
  rw [put_self]
  rfl

/-- The first bias enters as a one-row matrix, -/
theorem V5_v11 : V5 m d (Proc.devRef .tc main_v11) = shapeCast S1x1024 (m (d, Proc.devRef .tc main_arg3)) shapeCasts_S1024_S1x1024 := by
  rw [← V4_kept m d main_arg3 (by decide)]
  unfold V5
  after_results_simp
  rfl
/-- the second bias too, -/
theorem V5_v12 : V5 m d (Proc.devRef .tc main_v12) = shapeCast S1x2048 (m (d, Proc.devRef .tc main_arg5)) shapeCasts_S2048_S1x2048 := by
  rw [← V4_kept m d main_arg5 (by decide)]
  unfold V5
  after_results_simp
  rfl
/-- the scale, -/
theorem V5_v13 : V5 m d (Proc.devRef .tc main_v13) = shapeCast S1x2048 (m (d, Proc.devRef .tc main_arg6)) shapeCasts_S2048_S1x2048 := by
  rw [← V4_kept m d main_arg6 (by decide)]
  unfold V5
  after_results_simp
  rfl
/-- and the shift; -/
theorem V5_v14 : V5 m d (Proc.devRef .tc main_v14) = shapeCast S1x2048 (m (d, Proc.devRef .tc main_arg7)) shapeCasts_S2048_S1x2048 := by
  rw [← V4_kept m d main_arg7 (by decide)]
  unfold V5
  after_results_simp
  rfl
/-- the first weights enter as launched, -/
theorem V5_arg2 : V5 m d (Proc.devRef .tc main_arg2) = m (d, Proc.devRef .tc main_arg2) := by
  rw [← V4_kept m d main_arg2 (by decide)]
  unfold V5
  after_results_simp
/-- and the second. -/
theorem V5_arg4 : V5 m d (Proc.devRef .tc main_arg4) = m (d, Proc.devRef .tc main_arg4) := by
  rw [← V4_kept m d main_arg4 (by decide)]
  unfold V5
  after_results_simp

/-- Between the two calls only the results' arrays change. -/
theorem V7_kept (r : Ref sig .tc) (h15 : r ≠ main_v15) (h16 : r ≠ main_v16) : V7 m d (Proc.devRef .tc r) = V5 m d (Proc.devRef .tc r) := by
  unfold V7 V6
  simp only [StableHlo.after_cons, StableHlo.after_nil]
  rw [StableHlo.unary_result_ne _ _ _ _ _ _ h16, put_ne _ _ h15]

/-- The second call's result starts as the first's. -/
theorem V7_v16 : V7 m d (Proc.devRef .tc main_v16) = arr2 (V5 m d) := by
  unfold V7 V6
  after_results_simp
  rw [put_self]
  rfl

/-- Rows in two halves, each made whole. -/
theorem joined_apply (g : S25600x2x128.Idx → Elt F .f32) (p : Fin 25600) (i : Fin 256) :
    shapeCast S25600x256 g shapeCasts_S25600x2x128_S25600x256 (ix2 p i) = g (ix3 p ⟨i.val / 128, by omega⟩ ⟨i.val % 128, by omega⟩) :=
  shapeCast_apply _ _ _ _ (by
    rw [Shape.rowMajor_val_three, Shape.rowMajor_val_two]
    show (p.val * 2 + i.val / 128) * 128 + i.val % 128 = p.val * 256 + i.val
    omega)

/-- The table's rows, each in two halves. -/
theorem halved_apply (tab : S500x256.Idx → Elt F .f32) (r : Fin 500) (i : Fin 256) :
    shapeCast S500x2x128 tab shapeCasts_S500x256_S500x2x128 (ix3 r ⟨i.val / 128, by omega⟩ ⟨i.val % 128, by omega⟩) = tab (ix2 r i) :=
  shapeCast_apply _ _ _ _ (by
    rw [Shape.rowMajor_val_three, Shape.rowMajor_val_two]
    show r.val * 256 + i.val = (r.val * 2 + i.val / 128) * 128 + i.val % 128
    omega)

/-- The table's index by its three coordinates, -/
theorem tabIx_eq (r : Fin 500) (a : Fin 2) (b : Fin 128) : tabIx r a b = ix3 r a b := by
  funext k; match k with | ⟨0, _⟩ => rfl | ⟨1, _⟩ => rfl | ⟨2, _⟩ => rfl

/-- and the list's by its one. -/
theorem idIx_eq (j : Fin 25600) : idIx j = ix1 j := by
  funext k; match k with | ⟨0, _⟩ => rfl

/-- A gathered row, whole: a row of the table. -/
theorem wholeRow_apply (tab : S500x256.Idx → Elt F .f32) (ids : S25600.Idx → BitVec 32) (p : Fin 25600) (i : Fin 256) :
    shapeCast S25600x256 (gathered (shapeCast S500x2x128 tab shapeCasts_S500x256_S500x2x128) ids) shapeCasts_S25600x2x128_S25600x256 (ix2 p i)
      = tab (ix2 (rowOf (ids (ix1 p))) i) := by
  rw [joined_apply, ← halved_apply tab, ← tabIx_eq, ← idIx_eq]
  rfl

end Cert.Proof.Sc
-- ==== Proof.Sc.KernelValue.lean ====
/-
  The kernel's result over the extended reals, index by index.
-/
module

public import proofs.«01_k».proof.Proof.Sc.Inputs

@[expose] public section

noncomputable section

namespace Cert.Proof.Sc

open Cert.KernelIdeal Cert.KernelIdeal.Gen
open Idealize.ShloMosaic Idealize.ShloMosaic.TcCoe

/-- The result at batch row `b`, position `s` and column `n`: `rowOut` of the table's row that the id there names. -/
def spec (ids : S1024x50.Idx → BitVec 32) (tab : S500x256.Idx → EReal) (w1 : S256x1024.Idx → EReal) (b1 : S1024.Idx → EReal)
    (w2 : S1024x2048.Idx → EReal) (b2 g bt : S2048.Idx → EReal) (b : Fin 1024) (s : Fin 50) (n : Fin 2048) : EReal :=
  rowOut (fun i => tab (ix2 (rowOf (ids (ix2 b s))) i)) (fun i k => w1 (ix2 i k)) (fun k => b1 (ix1 k)) (fun k n => w2 (ix2 k n))
    (fun n => b2 (ix1 n)) (fun n => g (ix1 n)) (fun n => bt (ix1 n)) n

variable (m : (ℓ : Loc nD τ sig) → Buf (Elt Ideal) ℓ) (d : Dev nD)

/-- `spec` of the arguments as launched. -/
abbrev specOf : Fin 1024 → Fin 50 → Fin 2048 → EReal :=
  spec (m (d, Proc.devRef .tc main_arg0)) (m (d, Proc.devRef .tc main_arg1)) (m (d, Proc.devRef .tc main_arg2)) (m (d, Proc.devRef .tc main_arg3))
    (m (d, Proc.devRef .tc main_arg4)) (m (d, Proc.devRef .tc main_arg5)) (m (d, Proc.devRef .tc main_arg6)) (m (d, Proc.devRef .tc main_arg7))

/-- A vector as a one-row matrix. -/
theorem row1024_apply (v : S1024.Idx → EReal) (k : Fin 1024) : shapeCast S1x1024 v shapeCasts_S1024_S1x1024 (ix2 0 k) = v (ix1 k) := by
  pointwise
/-- The same at 2048 columns. -/
theorem row2048_apply (v : S2048.Idx → EReal) (k : Fin 2048) : shapeCast S1x2048 v shapeCasts_S2048_S1x2048 (ix2 0 k) = v (ix1 k) := by
  pointwise

/-- A call's result from rows that are the table's, where row `inRow s b` is the one that the id at `(β b, s)` names. -/
theorem fromRow_eq (x : S25600x256.Idx → EReal) (s : Fin 50) (b : Fin 512) (β : Fin 1024) (n : Fin 2048)
    (hx : ∀ i, x (ix2 (inRow s b) i) = m (d, Proc.devRef .tc main_arg1) (ix2 (rowOf (m (d, Proc.devRef .tc main_arg0) (ix2 β s))) i)) :
    fromRow (V5 m d) x s b n = specOf m d β s n := by
  unfold fromRow specOf spec
  rw [V5_v11, V5_v12, V5_v13, V5_v14, V5_arg2, V5_arg4]
  congr 1
  · funext i; exact hx i
  · funext k; exact row1024_apply _ k
  · funext k; exact row2048_apply _ k
  · funext k; exact row2048_apply _ k
  · funext k; exact row2048_apply _ k

/-- The second call finds the layers' parameters as the first does. -/
theorem fromRow_kept (x : S25600x256.Idx → EReal) (s : Fin 50) (b : Fin 512) (n : Fin 2048) :
    fromRow (V7 m d) x s b n = fromRow (V5 m d) x s b n := by
  unfold fromRow
  rw [V7_kept m d main_v11 (by decide) (by decide), V7_kept m d main_v12 (by decide) (by decide), V7_kept m d main_v13 (by decide) (by decide),
    V7_kept m d main_v14 (by decide) (by decide), V7_kept m d main_arg2 (by decide) (by decide), V7_kept m d main_arg4 (by decide) (by decide)]

/-- The first call's rows. -/
theorem rows0 (s : Fin 50) (b : Fin 512) (i : Fin 256) : V5 m d (Proc.devRef .tc main_v7) (ix2 (inRow s b) i)
    = m (d, Proc.devRef .tc main_arg1) (ix2 (rowOf (m (d, Proc.devRef .tc main_arg0) (ix2 ⟨b.val, by omega⟩ s))) i) := by
  rw [V5_v7, V1_v4]
  refine (wholeRow_apply _ _ _ _).trans ?_
  have h : V1 m d (Proc.devRef .tc main_v5) (ix1 (inRow s b)) = m (d, Proc.devRef .tc main_arg0) (ix2 ⟨b.val, by omega⟩ s) := by
    refine (list0_apply m d (inRow s b)).trans (congrArg (m (d, Proc.devRef .tc main_arg0)) ?_)
    have hs := s.isLt
    funext a
    match a with
    | ⟨0, _⟩ => exact Fin.ext (show (b.val / 16 * 800 + s.val * 16 + b.val % 16) / 800 * 16 + (b.val / 16 * 800 + s.val * 16 + b.val % 16) % 16 = b.val by omega)
    | ⟨1, _⟩ => exact Fin.ext (show (b.val / 16 * 800 + s.val * 16 + b.val % 16) / 16 % 50 = s.val by omega)
  rw [h]

/-- The second call's rows. -/
theorem rows1 (s : Fin 50) (b : Fin 512) (i : Fin 256) : V5 m d (Proc.devRef .tc main_v10) (ix2 (inRow s b) i)
    = m (d, Proc.devRef .tc main_arg1) (ix2 (rowOf (m (d, Proc.devRef .tc main_arg0) (ix2 ⟨512 + b.val, by omega⟩ s))) i) := by
  rw [V5_v10, V1_v4]
  refine (wholeRow_apply _ _ _ _).trans ?_
  have h : V3 m d (Proc.devRef .tc main_v8) (ix1 (inRow s b)) = m (d, Proc.devRef .tc main_arg0) (ix2 ⟨512 + b.val, by omega⟩ s) := by
    refine (list1_apply m d (inRow s b)).trans (congrArg (m (d, Proc.devRef .tc main_arg0)) ?_)
    have hs := s.isLt
    funext a
    match a with
    | ⟨0, _⟩ => exact Fin.ext (show (25600 + (b.val / 16 * 800 + s.val * 16 + b.val % 16)) / 800 * 16 + (25600 + (b.val / 16 * 800 + s.val * 16 + b.val % 16)) % 16 = 512 + b.val by omega)
    | ⟨1, _⟩ => exact Fin.ext (show (25600 + (b.val / 16 * 800 + s.val * 16 + b.val % 16)) / 16 % 50 = s.val by omega)
  rw [h]

/-- The kernel's result is `spec` of its arguments. -/
theorem kernel_value (b : Fin 1024) (s : Fin 50) (n : Fin 2048) : V9 m d (Proc.devRef .tc main_v17) (ix3 b s n) = specOf m d b s n := by
  rw [V9_v17]
  refine (transpose_apply _ _ _ _ (ix3 s b n) (fun a => match a with | ⟨0, _⟩ => rfl | ⟨1, _⟩ => rfl | ⟨2, _⟩ => rfl)).trans ?_
  rw [arr3_eq]
  by_cases hb : b.val < 512
  · rw [half2_lt _ _ _ _ (by exact hb), V7_v16, arr2_eq, half1_lt _ _ _ _ _ _ hb]
    exact fromRow_eq m d _ s ⟨b.val, hb⟩ b n (fun i => rows0 m d s ⟨b.val, hb⟩ i)
  · obtain ⟨c, hc⟩ : ∃ c : Fin 512, b.val = 512 + c.val := ⟨⟨b.val - 512, by omega⟩, (Nat.add_sub_cancel' (Nat.le_of_not_lt hb)).symm⟩
    obtain rfl : b = ⟨512 + c.val, Nat.add_lt_add_left c.isLt 512⟩ := Fin.ext hc
    rw [half2_ge, fromRow_kept, V7_kept m d main_v10 (by decide) (by decide)]
    exact fromRow_eq m d _ s c ⟨512 + c.val, by omega⟩ n (fun i => rows1 m d s c i)

end Cert.Proof.Sc
-- ==== Proof.Sc.Taken.lean ====
/-
  The rows the reference takes: where every id is below 500, each is the table's row that its id names.
-/
module

public import proofs.«01_k».proof.Proof.Gen.ReferenceIdeal.Run
public import proofs.«01_k».proof.Proof.Sc.Gathered
public import Idealize.ShloMosaic.PureOps.Ideal
public import Idealize.ShloMosaic.Lib.Pointwise
public import Idealize.ShloMosaic.Lib.ReduceAll

@[expose] public section

noncomputable section

namespace Cert.Proof.Sc

open Cert.ReferenceIdeal Cert.ReferenceIdeal.Gen
open Idealize.ShloMosaic Idealize.ShloMosaic.TcCoe

/-- The ids as the reference takes them: one below zero counts from the table's end. -/
def wrapped (ids : S1024x50.Idx → BitVec 32) : S1024x50x1.Idx → BitVec 32 :=
  broadcastInDim S1024x50x1 ![0, 1] bcast_S1024x50_S1024x50x1_0_1 (select (cmpi .slt ids (broadcastInDim S1024x50 ![] bcast_S_S1024x50 (constantI S_ 32 0#32)))
    (addi ids (broadcastInDim S1024x50 ![] bcast_S_S1024x50 (constantI S_ 32 500#32))) ids)

/-- The rows taken: the table's at the wrapped ids, a row outside the table replaced. -/
def taken (ids : S1024x50.Idx → BitVec 32) (tab : S500x256.Idx → EReal) : S1024x50x256.Idx → EReal :=
  select (broadcastInDim S1024x50x256 ![0, 1] bcast_S1024x50_S1024x50x256_0_1
      (Host.reduce IntOp.andi (andi (cmpi .sge (wrapped ids) (broadcastInDim S1024x50x1 ![] bcast_S_S1024x50x1 (constantI S_ 32 0#32)))
          (cmpi .sle (wrapped ids) (broadcastInDim S1024x50x1 ![0, 1, 2] bcast_S1x1x1_S1024x50x1_0_1_2 (broadcastInDim S1x1x1 ![2] bcast_S1_S1x1x1_2 (constantI S1 32 499#32)))))
        (constantI S_ 1 1#1) reducesTo_S1024x50x1_S1024x50_d2 h_S_))
    (Host.gather gather_S500x256_S1024x50x1_S1024x50x256_2_0_n_n_0_2_1256 tab (wrapped ids))
    (broadcastInDim S1024x50x256 ![] bcast_S_S1024x50x256 (constant (F := Ideal) S_ .f32 0x7FC00000#32))

/-- The gather at `(b, s, i)`: the table's row at the start index, read signed and clamped, at column `i`. -/
theorem gather_at (tab : S500x256.Idx → EReal) (idx : S1024x50x1.Idx → BitVec 32) (b : Fin 1024) (s : Fin 50) (i : Fin 256) :
    Host.gather gather_S500x256_S1024x50x1_S1024x50x256_2_0_n_n_0_2_1256 tab idx (ix3 b s i)
      = tab (ix2 ⟨min (idx (ix3 b s 0)).toInt.toNat 499, by omega⟩ i) := by
  unfold Host.gather
  congr 1
  funext a
  refine Fin.ext ?_
  show (gather_S500x256_S1024x50x1_S1024x50x256_2_0_n_n_0_2_1256).start (ix3 b s i) idx a + (gather_S500x256_S1024x50x1_S1024x50x256_2_0_n_n_0_2_1256).batchCoord (ix3 b s i) a
    + (gather_S500x256_S1024x50x1_S1024x50x256_2_0_n_n_0_2_1256).offCoord (ix3 b s i) a = _
  match a with
  | ⟨0, _⟩ =>
    have h0 : (⟨0, by decide⟩ : Fin S500x256.rank) ∈ (gather_S500x256_S1024x50x1_S1024x50x256_2_0_n_n_0_2_1256).startIndexMap :=
      List.mem_singleton.mpr rfl
    rw [GatherDims.batchCoord_eq_zero _ _ _ List.not_mem_nil,
      GatherDims.offCoord_eq_zero _ _ _ (fun h => ((GatherDims.mem_sKept _ _).mp h).1 (List.mem_singleton.mpr rfl))]
    unfold GatherDims.start
    rw [dif_pos h0]
    refine congrArg (fun z => min (idx z).toInt.toNat 499) (funext fun k => Fin.ext ?_)
    match k with
    | ⟨0, _⟩ => rfl
    | ⟨1, _⟩ => rfl
    | ⟨2, _⟩ => rfl
  | ⟨1, _⟩ =>
    have h1 : ¬ (⟨1, by decide⟩ : Fin S500x256.rank) ∈ (gather_S500x256_S1024x50x1_S1024x50x256_2_0_n_n_0_2_1256).startIndexMap :=
      fun h => absurd (congrArg Fin.val (List.mem_singleton.mp h)) Nat.one_ne_zero
    have hk : (⟨1, by decide⟩ : Fin S500x256.rank) ∈ (gather_S500x256_S1024x50x1_S1024x50x256_2_0_n_n_0_2_1256).sKept :=
      (GatherDims.mem_sKept _ _).mpr
        ⟨fun h => absurd (congrArg Fin.val (List.mem_singleton.mp h)) Nat.one_ne_zero, List.not_mem_nil⟩
    rw [GatherDims.batchCoord_eq_zero _ _ _ List.not_mem_nil]
    unfold GatherDims.start GatherDims.offCoord
    rw [dif_neg h1, dif_pos hk]
    show 0 + 0 + i.val = i.val
    omega

/-- A word below 500 is not negative, -/
theorem not_slt (w : BitVec 32) (h : w.toNat < 500) : IntOp.cmpi .slt w 0#32 = 0#1 := by
  simp only [IntOp.cmpi, BitVec.slt_eq_decide, BitVec.toInt_eq_toNat_cond, BitVec.toNat_ofNat]
  rw [decide_eq_false (by omega)]; rfl
/-- is at least 0, -/
theorem sge_zero (w : BitVec 32) (h : w.toNat < 500) : IntOp.cmpi .sge w 0#32 = 1#1 := by
  simp only [IntOp.cmpi, BitVec.sle_eq_decide, BitVec.toInt_eq_toNat_cond, BitVec.toNat_ofNat]
  rw [decide_eq_true (by omega)]; rfl
/-- is at most 499, -/
theorem sle_last (w : BitVec 32) (h : w.toNat < 500) : IntOp.cmpi .sle w 499#32 = 1#1 := by
  simp only [IntOp.cmpi, BitVec.sle_eq_decide, BitVec.toInt_eq_toNat_cond, BitVec.toNat_ofNat]
  rw [decide_eq_true (by omega)]; rfl
/-- and clamped to the table is itself. -/
theorem clamp_row (w : BitVec 32) (h : w.toNat < 500) : min w.toInt.toNat 499 = w.toNat % 500 := by
  have e : w.toInt = w.toNat := by rw [BitVec.toInt_eq_toNat_cond]; omega
  rw [e, Int.toNat_natCast, Nat.mod_eq_of_lt h]; omega

/-- Ids below 500 are taken as they are. -/
theorem wrapped_apply (ids : S1024x50.Idx → BitVec 32) (h : ∀ i, (ids i).toNat < 500) (b : Fin 1024) (s : Fin 50) (z : Fin 1) :
    wrapped ids (ix3 b s z) = ids (ix2 b s) := by
  pointwise [wrapped]
  rw [not_slt _ (h _)]
  rfl

/-- The row taken at `(b, s)` is the table's that the id names. -/
theorem taken_apply (ids : S1024x50.Idx → BitVec 32) (tab : S500x256.Idx → EReal) (h : ∀ i, (ids i).toNat < 500)
    (b : Fin 1024) (s : Fin 50) (i : Fin 256) : taken ids tab (ix3 b s i) = tab (ix2 (rowOf (ids (ix2 b s))) i) := by
  have hall : Host.reduce IntOp.andi (andi (cmpi .sge (wrapped ids) (broadcastInDim S1024x50x1 ![] bcast_S_S1024x50x1 (constantI S_ 32 0#32)))
          (cmpi .sle (wrapped ids) (broadcastInDim S1024x50x1 ![0, 1, 2] bcast_S1x1x1_S1024x50x1_0_1_2 (broadcastInDim S1x1x1 ![2] bcast_S1_S1x1x1_2 (constantI S1 32 499#32)))))
        (constantI S_ 1 1#1) reducesTo_S1024x50x1_S1024x50_d2 h_S_ (ix2 b s) = 1#1 := by
    refine Host.reduce_andi_one _ _ _ _ _ rfl fun y => ?_
    obtain ⟨q, u, z, rfl⟩ : ∃ (q : Fin 1024) (u : Fin 50) (z : Fin 1), y = ix3 q u z := ⟨y 0, y 1, y 2, eq_ix3 y⟩
    have e := wrapped_apply ids h q u z
    generalize wrapped ids = w at e ⊢
    pointwise
    rw [e, sge_zero _ (h _), sle_last _ (h _)]
    rfl
  have hg := gather_at tab (wrapped ids) b s i
  have hw := wrapped_apply ids h b s 0
  unfold taken
  generalize wrapped ids = w at hall hg hw ⊢
  generalize Host.gather gather_S500x256_S1024x50x1_S1024x50x256_2_0_n_n_0_2_1256 tab w = G at hg ⊢
  generalize Host.reduce IntOp.andi _ _ _ _ = R at hall ⊢
  pointwise
  rw [hall]
  refine hg.trans (congrArg tab ?_)
  exact congrArg (fun r => ix2 r i) (Fin.ext ((congrArg (fun z => min z.toInt.toNat 499) hw).trans (clamp_row _ (h _))))

end Cert.Proof.Sc
-- ==== Proof.Sc.NormForms.lean ====
/-
  Dividing by a standard deviation and multiplying by its inverse: the same, where the variance is positive.
-/
module

public import Idealize.ShloMosaic.PureOps.Ideal
public import Idealize.ShloMosaic.PureOps.Ideal.Laws
public import Idealize.ShloMosaic.Lib.IdealHost

@[expose] public section

noncomputable section

namespace Cert.Proof.Sc

open Idealize.ShloMosaic

/-- The row length as a float is the real 2048. -/
theorem ofBits_len : Ideal.ofBits .f32 0x45000000#32 = ((2048 : ℝ) : EReal) := by
  simp [Ideal.ofBits, Ideal.ieee, -EReal.coe_mul]; norm_num

/-- The variance's offset is a positive real. -/
theorem ofBits_eps_pos : 0 < Ideal.ofBits .f32 0x3727C5AC#32 := by
  simp [Ideal.ofBits, Ideal.ieee, -EReal.coe_mul]

/-- A square is not negative. -/
theorem sq_nonneg' (x : EReal) : 0 ≤ x * x := by
  rcases le_total 0 x with h | h
  · exact mul_nonneg h h
  · have h' := mul_nonneg (EReal.neg_nonneg.mpr h) (EReal.neg_nonneg.mpr h)
    rwa [neg_mul_neg] at h'

/-- A mean of squares over 2048, offset, is positive. -/
theorem var_pos (f : Fin 2048 → EReal) :
    0 < Ideal.div (∑ n, f n * f n) (Ideal.ofBits .f32 0x45000000#32) + Ideal.ofBits .f32 0x3727C5AC#32 := by
  have hs : 0 ≤ ∑ n, f n * f n := Finset.sum_nonneg fun n _ => sq_nonneg' (f n)
  rw [ofBits_len, Ideal.div_coe (by norm_num)]
  refine lt_of_lt_of_le ofBits_eps_pos (le_add_of_nonneg_left (mul_nonneg hs ?_))
  exact_mod_cast (by norm_num : (0 : ℝ) ≤ 1 / 2048)

/-- Over a positive variance, dividing by the root is multiplying by the inverse root. -/
theorem div_sqrt (x v : EReal) (hv : 0 < v) : Ideal.div x (Ideal.sqrt v) = x * Ideal.rsqrt v := by
  induction v with
  | bot => exact absurd hv not_lt_bot
  | top => rw [Ideal.sqrt_top, Ideal.rsqrt_top, Ideal.div, if_neg (by simp), EReal.inv_top]
  | coe r =>
    have hr : 0 < r := by exact_mod_cast hv
    have hq : Real.sqrt r ≠ 0 := (Real.sqrt_pos.mpr hr).ne'
    rw [Ideal.sqrt_coe, Ideal.rsqrt_coe, if_neg hr.le.not_gt, if_neg hr.le.not_gt, if_neg hr.ne', Ideal.div_coe hq, one_div]

/-- The reference's divisor, the row length less a zero read as a float, is the row length, -/
theorem len_sub : Ideal.ofBits .f32 0x45000000#32 - (((0#32 : BitVec 32).toInt : ℝ) : EReal) = Ideal.ofBits .f32 0x45000000#32 := by
  have h : ((0#32 : BitVec 32).toInt : ℝ) = 0 := by norm_num
  rw [h, EReal.coe_zero, sub_zero]

/-- and is above zero. -/
theorem len_pos : (0 : EReal) < Ideal.ofBits .f32 0x45000000#32 := by
  rw [ofBits_len]
  exact_mod_cast (by norm_num : (0 : ℝ) < 2048)

end Cert.Proof.Sc
-- ==== Proof.Sc.RefValue.lean ====
/-
  The reference's result at an index, where every id is below 500: the row function of the row its id names.
-/
module

public import proofs.«01_k».proof.Proof.Gen.ReferenceIdeal.Run
public import proofs.«01_k».proof.Proof.Sc.Taken
public import proofs.«01_k».proof.Proof.Sc.NormForms
public import proofs.«01_k».proof.Proof.Sc.Row

@[expose] public section

noncomputable section

namespace Cert.Proof.Sc

open Cert.ReferenceIdeal Cert.ReferenceIdeal.Gen
open Idealize.ShloMosaic Idealize.ShloMosaic.TcCoe
open scoped BigOperators

/-- The first layer before its unit, of the taken rows. -/
def refPre (x : S1024x50x256.Idx → EReal) (w1 : S256x1024.Idx → EReal) (b1 : S1024.Idx → EReal) : S1024x50x1024.Idx → EReal :=
  addf (F := Ideal) (φ := .f32) (Host.dotGeneral (F := Ideal) (φ₁ := .f32) (φ₂ := .f32) dot_S1024x50x256_S256x1024_S1024x50x1024_2_0_01_1_n_n none x w1)
    (broadcastInDim S1024x50x1024 ![0, 1, 2] bcast_S1x1x1024_S1024x50x1024_0_1_2 (broadcastInDim S1x1x1024 ![2] bcast_S1024_S1x1x1024_2 b1))

/-- The Gaussian unit, by the complementary error function. -/
def refHid (p : S1024x50x1024.Idx → EReal) : S1024x50x1024.Idx → EReal :=
  mulf (F := Ideal) (φ := .f32) (mulf (broadcastInDim S1024x50x1024 ![] bcast_S_S1024x50x1024 (constant (F := Ideal) S_ .f32 0x3F000000#32)) p)
    (Host.erfc (mulf (Host.negf p) (broadcastInDim S1024x50x1024 ![] bcast_S_S1024x50x1024 (constant (F := Ideal) S_ .f32 0x3F3504F3#32))))

/-- The second layer. -/
def refProj (h : S1024x50x1024.Idx → EReal) (w2 : S1024x2048.Idx → EReal) (b2 : S2048.Idx → EReal) : S1024x50x2048.Idx → EReal :=
  addf (F := Ideal) (φ := .f32) (Host.dotGeneral (F := Ideal) (φ₁ := .f32) (φ₂ := .f32) dot_S1024x50x1024_S1024x2048_S1024x50x2048_2_0_01_1_n_n none h w2)
    (broadcastInDim S1024x50x2048 ![0, 1, 2] bcast_S1x1x2048_S1024x50x2048_0_1_2 (broadcastInDim S1x1x2048 ![2] bcast_S2048_S1x1x2048_2 b2))

/-- The rows' means. -/
def refMean (y : S1024x50x2048.Idx → EReal) : S1024x50x1.Idx → EReal :=
  Host.divf (F := Ideal) (φ := .f32) (broadcastInDim S1024x50x1 ![0, 1] bcast_S1024x50_S1024x50x1_0_1 (Host.reduceAdd (F := Ideal) (φ := .f32) y (constant S_ .f32 0x00000000#32) reducesTo_S1024x50x2048_S1024x50_d2 h_S_))
    (broadcastInDim S1024x50x1 ![] bcast_S_S1024x50x1 (constant (F := Ideal) S_ .f32 0x45000000#32))

/-- The values less their row's mean. -/
def refDev (y : S1024x50x2048.Idx → EReal) : S1024x50x2048.Idx → EReal :=
  subf (F := Ideal) (φ := .f32) y (broadcastInDim S1024x50x2048 ![0, 1, 2] bcast_S1024x50x1_S1024x50x2048_0_1_2 (refMean y))

/-- The divisor of the rows' variances. -/
def refLen : S_.Idx → EReal :=
  subf (F := Ideal) (φ := .f32) (constant S_ .f32 0x45000000#32) (sitofp .f32 (constantI S_ 32 0#32))

/-- The rows' variances. -/
def refVar (d : S1024x50x2048.Idx → EReal) : S1024x50x1.Idx → EReal :=
  select (broadcastInDim S1024x50x1 ![] bcast_S_S1024x50x1 (cmpf (F := Ideal) (φ := .f32) .ogt refLen (constant S_ .f32 0x00000000#32)))
    (Host.divf (F := Ideal) (φ := .f32) (broadcastInDim S1024x50x1 ![0, 1] bcast_S1024x50_S1024x50x1_0_1 (Host.reduceAdd (F := Ideal) (φ := .f32) (mulf (F := Ideal) (φ := .f32) d d) (constant S_ .f32 0x00000000#32) reducesTo_S1024x50x2048_S1024x50_d2 h_S_))
      (broadcastInDim S1024x50x1 ![] bcast_S_S1024x50x1 refLen))
    (broadcastInDim S1024x50x1 ![] bcast_S_S1024x50x1 (id (constant (F := Ideal) S_ .f32 0x7FC00000#32)))

/-- The scaled and shifted rows. -/
def refOut (d : S1024x50x2048.Idx → EReal) (v : S1024x50x1.Idx → EReal) (g bt : S2048.Idx → EReal) : S1024x50x2048.Idx → EReal :=
  addf (F := Ideal) (φ := .f32) (mulf (F := Ideal) (φ := .f32) (Host.divf (F := Ideal) (φ := .f32) d (broadcastInDim S1024x50x2048 ![0, 1, 2] bcast_S1024x50x1_S1024x50x2048_0_1_2
      (Host.sqrt (F := Ideal) (φ := .f32) (addf (F := Ideal) (φ := .f32) v (broadcastInDim S1024x50x1 ![] bcast_S_S1024x50x1 (constant (F := Ideal) S_ .f32 0x3727C5AC#32))))))
      (broadcastInDim S1024x50x2048 ![0, 1, 2] bcast_S1x1x2048_S1024x50x2048_0_1_2 (broadcastInDim S1x1x2048 ![2] bcast_S2048_S1x1x2048_2 g)))
    (broadcastInDim S1024x50x2048 ![0, 1, 2] bcast_S1x1x2048_S1024x50x2048_0_1_2 (broadcastInDim S1x1x2048 ![2] bcast_S2048_S1x1x2048_2 bt))

/-- The second layer of the taken rows. -/
def refRows (ids : S1024x50.Idx → BitVec 32) (tab : S500x256.Idx → EReal) (w1 : S256x1024.Idx → EReal) (b1 : S1024.Idx → EReal)
    (w2 : S1024x2048.Idx → EReal) (b2 : S2048.Idx → EReal) : S1024x50x2048.Idx → EReal :=
  refProj (refHid (refPre (taken ids tab) w1 b1)) w2 b2

/-- The program's result is these stages of its arguments. -/
theorem res_eq (m : (ℓ : Loc nD τ sig) → Buf (Elt Ideal) ℓ) (c : Dev nD) :
    Cert.ReferenceIdeal.Value.res_main_v33 m c
      = refOut (refDev (refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))))
        (refVar (refDev (refRows (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)))))
        (m ((c.tc : Thread nD τ).loc main_arg6)) (m ((c.tc : Thread nD τ).loc main_arg7)) := rfl

variable (b : Fin 1024) (s : Fin 50)

/-- The hidden layer at `(b, s, k)` is the row function's of that row. -/
theorem refHid_apply (x : S1024x50x256.Idx → EReal) (w1 : S256x1024.Idx → EReal) (b1 : S1024.Idx → EReal) (k : Fin 1024) :
    refHid (refPre x w1 b1) (ix3 b s k)
      = hidden (fun i => x (ix3 b s i)) (fun i k => w1 (ix2 i k)) (fun k => b1 (ix1 k)) k := by
  pointwise [refHid, refPre, hidden]
  rw [neg_mul, Ideal.erfc_neg]

/-- The second layer at `(b, s, n)`. -/
theorem refProj_apply (h : S1024x50x1024.Idx → EReal) (w2 : S1024x2048.Idx → EReal) (b2 : S2048.Idx → EReal) (n : Fin 2048) :
    refProj h w2 b2 (ix3 b s n) = project (fun k => h (ix3 b s k)) (fun k n => w2 (ix2 k n)) (fun n => b2 (ix1 n)) n := by
  pointwise [refProj, project]

/-- A value less its row's mean. -/
theorem refDev_apply (y : S1024x50x2048.Idx → EReal) (n : Fin 2048) :
    refDev y (ix3 b s n) = y (ix3 b s n) - mean (fun n => y (ix3 b s n)) := by
  pointwise [refDev, refMean, mean]

/-- A row's variance. -/
theorem refVar_apply (d : S1024x50x2048.Idx → EReal) (z : Fin 1) :
    refVar d (ix3 b s z) = mean (fun n => d (ix3 b s n) * d (ix3 b s n)) := by
  have hl : Ideal.ofBits .f32 0x45000000#32 - FloatOps.sitofp (F := Ideal) .f32 0#32 = Ideal.ofBits .f32 0x45000000#32 := len_sub
  pointwise [refVar, refLen, mean]
  rw [hl, if_pos len_pos]

/-- The result from deviations and variance. -/
theorem refOut_apply (d : S1024x50x2048.Idx → EReal) (v : S1024x50x1.Idx → EReal) (g bt : S2048.Idx → EReal) (n : Fin 2048) :
    refOut d v g bt (ix3 b s n)
      = Ideal.div (d (ix3 b s n)) (Ideal.sqrt (v (ix3 b s 0) + Ideal.ofBits .f32 0x3727C5AC#32)) * g (ix1 n) + bt (ix1 n) := by
  pointwise [refOut]

/-- The reference's result at `(b, s, n)`: the row function of the table's row that the id at `(b, s)` names. -/
theorem ref_apply (ids : S1024x50.Idx → BitVec 32) (tab : S500x256.Idx → EReal) (w1 : S256x1024.Idx → EReal) (b1 : S1024.Idx → EReal)
    (w2 : S1024x2048.Idx → EReal) (b2 g bt : S2048.Idx → EReal) (hi : ∀ i, (ids i).toNat < 500) (n : Fin 2048) :
    refOut (refDev (refRows ids tab w1 b1 w2 b2)) (refVar (refDev (refRows ids tab w1 b1 w2 b2))) g bt (ix3 b s n)
      = rowOut (fun i => tab (ix2 (rowOf (ids (ix2 b s))) i)) (fun i k => w1 (ix2 i k)) (fun k => b1 (ix1 k)) (fun k n => w2 (ix2 k n))
          (fun n => b2 (ix1 n)) (fun n => g (ix1 n)) (fun n => bt (ix1 n)) n := by
  have hy : (fun n => refRows ids tab w1 b1 w2 b2 (ix3 b s n))
      = project (hidden (fun i => tab (ix2 (rowOf (ids (ix2 b s))) i)) (fun i k => w1 (ix2 i k)) fun k => b1 (ix1 k)) (fun k n => w2 (ix2 k n)) fun n => b2 (ix1 n) := by
    funext n
    unfold refRows
    rw [refProj_apply]
    simp only [refHid_apply, taken_apply ids tab hi]
  rw [refOut_apply, refVar_apply]
  simp only [refDev_apply]
  unfold rowOut norm
  rw [← hy]
  refine congrArg (fun z => z * g (ix1 n) + bt (ix1 n)) (div_sqrt _ _ ?_)
  exact var_pos fun n => refRows ids tab w1 b1 w2 b2 (ix3 b s n) - mean fun n => refRows ids tab w1 b1 w2 b2 (ix3 b s n)

end Cert.Proof.Sc
-- ==== Proof.Sc.Algebraic.lean ====
/-
  The algebraic claim: from memories that agree on the arguments, every id below 500, the kernel and the reference end with
  the same result over the extended reals.
-/
module

public import proofs.«01_k».proof.Proof.Sc.Frames
public import proofs.«01_k».proof.Proof.Sc.KernelValue
public import proofs.«01_k».proof.Proof.Sc.RefValue

@[expose] public section

noncomputable section

namespace Cert.Proof.Sc

open Idealize.ShloMosaic Idealize.ShloMosaic.TcCoe Idealize.SL.Sem

/-- The reference's result at an index is `spec` of its arguments. -/
theorem reference_value (m' : (ℓ : Loc Cert.ReferenceIdeal.nD Cert.ReferenceIdeal.τ Cert.ReferenceIdeal.sig) → Buf (Elt Ideal) ℓ)
    (c : Dev Cert.ReferenceIdeal.nD)
    (hi : ∀ i : Cert.ReferenceIdeal.S1024x50.Idx, BitVec.toNat (m' ((c.tc : Thread Cert.ReferenceIdeal.nD Cert.ReferenceIdeal.τ).loc Cert.ReferenceIdeal.main_arg0) i) < 500)
    (b : Fin 1024) (s : Fin 50) (n : Fin 2048) :
    Cert.ReferenceIdeal.Value.res_main_v33 m' c (ix3 b s n)
      = spec (m' ((c.tc : Thread Cert.ReferenceIdeal.nD Cert.ReferenceIdeal.τ).loc Cert.ReferenceIdeal.main_arg0))
          (m' ((c.tc : Thread Cert.ReferenceIdeal.nD Cert.ReferenceIdeal.τ).loc Cert.ReferenceIdeal.main_arg1))
          (m' ((c.tc : Thread Cert.ReferenceIdeal.nD Cert.ReferenceIdeal.τ).loc Cert.ReferenceIdeal.main_arg2))
          (m' ((c.tc : Thread Cert.ReferenceIdeal.nD Cert.ReferenceIdeal.τ).loc Cert.ReferenceIdeal.main_arg3))
          (m' ((c.tc : Thread Cert.ReferenceIdeal.nD Cert.ReferenceIdeal.τ).loc Cert.ReferenceIdeal.main_arg4))
          (m' ((c.tc : Thread Cert.ReferenceIdeal.nD Cert.ReferenceIdeal.τ).loc Cert.ReferenceIdeal.main_arg5))
          (m' ((c.tc : Thread Cert.ReferenceIdeal.nD Cert.ReferenceIdeal.τ).loc Cert.ReferenceIdeal.main_arg6))
          (m' ((c.tc : Thread Cert.ReferenceIdeal.nD Cert.ReferenceIdeal.τ).loc Cert.ReferenceIdeal.main_arg7)) b s n := by
  rw [res_eq]
  exact ref_apply b s _ _ _ _ _ _ _ _ hi n

/-- Where the arguments agree, every id below 500, the results are the same array. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hi : ∀ i, (idsOf m c i).toNat < 500)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Value.res_main_v33 m' c = V9 m c (Proc.devRef .tc Cert.KernelIdeal.main_v17) := by
  funext y
  obtain ⟨b, s, n, rfl⟩ : ∃ (b : Fin 1024) (s : Fin 50) (n : Fin 2048), y = ix3 b s n := ⟨y 0, y 1, y 2, eq_ix3 y⟩
  refine (reference_value m' c (fun i => ?_) b s n).trans (Eq.trans ?_ (kernel_value m c b s n).symm)
  · rw [h0]; exact hi i
  · rw [h0, h1, h2, h3, h4, h5, h6, h7]

/-- The kernel and the reference agree over the extended reals. -/
theorem algebraic : Cert.algebraic_KernelIdeal_ReferenceIdeal (hKernelIdeal := Cert.KernelIdeal.Gen.facts)
    (hReferenceIdeal := Cert.ReferenceIdeal.Gen.facts) (hPre_ids_in_table := Cert.Pre_ids_in_table.Gen.facts) := by
  intro m g m' g' hpre hargs
  have hi : ∀ d i, (idsOf m d i).toNat < 500 := fun d i => word_lt (F := Ideal) _ _ _ _ _ _ _ _ (hpre d) i
  refine ⟨fun c => V9 m c (Proc.devRef .tc Cert.KernelIdeal.main_v17), ?_, ?_⟩
  · exact (θ_run (Cert.KernelIdeal.defs (F := Ideal)) _ _).mono
      (fun _ h d => ⟨h.1 d (Proc.devRef .tc Cert.KernelIdeal.main_v17) (by decide), kept h d _ (by decide) (by decide), kept h d _ (by decide) (by decide), kept h d _ (by decide) (by decide),
        kept h d _ (by decide) (by decide), kept h d _ (by decide) (by decide), kept h d _ (by decide) (by decide), kept h d _ (by decide) (by decide),
        kept h d _ (by decide) (by decide)⟩)
      (run_main (F := Ideal) m g (args_ok m hi))
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4, h5, h6, h7⟩ := hargs c
    exact results_agree m m' c (hi c) h0 h1 h2 h3 h4 h5 h6 h7

end Cert.Proof.Sc
-- ==== Proof.lean ====
/-
  The certificate: both kernels' and the reference's frames, the idealisation's preservation, and the algebraic claim.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_ids_in_table
public import proofs.«01_k».proof.Proof.Sc.Frames
public import proofs.«01_k».proof.Proof.Sc.Algebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Pre_ids_in_table.Gen.facts,
    Sc.frame_kernel, Sc.frame_kernelIdeal, Sc.frame_referenceIdeal, fun m g _ => Sc.frame_referenceIdeal m g trivial, trivial, Sc.algebraic⟩

end Cert.Proof

end
